-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x6x512 : Shape := ⟨3, ![16384, 6, 512]⟩
abbrev S6 : Shape := ⟨1, ![6]⟩
abbrev S_ : Shape := ⟨0, ![]⟩

class Facts : Prop where
  bcast_S_S6 : S_.BroadcastsInDim S6 (![] : Fin 0 → Fin S6.rank)
  reducesTo_S6_S_d0 : S6.ReducesTo [0] S_
  h_S_ : 0 < S_.numel

variable [Facts]

def fn {F : FTy → Type} [FloatOps F] (main_arg0 : FVec F S16384x6x512 .f32) (main_arg1 : IVec S6 32) : IVec S_ 1 :=
  let main_c : IVec S_ 32 := constantI S_ 32 0#32
  let main_v0 : IVec S6 32 := broadcastInDim S6 ![] bcast_S_S6 main_c
  let main_v1 : IVec S6 1 := cmpi .sge main_arg1 main_v0
  let main_c_0 : IVec S_ 32 := constantI S_ 32 6#32
  let main_v2 : IVec S6 32 := broadcastInDim S6 ![] bcast_S_S6 main_c_0
  let main_v3 : IVec S6 1 := cmpi .slt main_arg1 main_v2
  let main_v4 : IVec S6 1 := andi main_v1 main_v3
  let main_c_1 : IVec S_ 1 := constantI S_ 1 1#1
  let main_v5 : IVec S_ 1 := (fun x v => Host.reduce IntOp.andi x v reducesTo_S6_S_d0 h_S_) main_v4 main_c_1
  main_v5
-- ==== Kernel.lean ====
abbrev S16384x6x512 : Shape := ⟨3, ![16384, 6, 512]⟩
abbrev S6 : Shape := ⟨1, ![6]⟩
abbrev S_ : Shape := ⟨0, ![]⟩
abbrev S16 : Shape := ⟨1, ![16]⟩
abbrev S1 : Shape := ⟨1, ![1]⟩
abbrev S64x1x512 : Shape := ⟨3, ![64, 1, 512]⟩

abbrev nBuf : Table → Nat
  | .hbm => 8
  | .local .scVector .vmem => 3
  | _ => 0

abbrev bufTy : (tb : Table) → Fin (nBuf tb) → BufTy
  | .hbm, ⟨0, _⟩ => ⟨S16384x6x512, .f32⟩
  | .hbm, ⟨1, _⟩ => ⟨S6, .i32⟩
  | .hbm, ⟨2, _⟩ => ⟨S_, .i32⟩
  | .hbm, ⟨3, _⟩ => ⟨S16, .i32⟩
  | .hbm, ⟨4, _⟩ => ⟨S_, .i32⟩
  | .hbm, ⟨5, _⟩ => ⟨S1, .i32⟩
  | .hbm, ⟨6, _⟩ => ⟨S16, .i32⟩
  | .hbm, ⟨7, _⟩ => ⟨S16384x6x512, .f32⟩
  | .local .scVector .vmem, ⟨0, _⟩ => ⟨S16, .i32⟩
  | .local .scVector .vmem, ⟨1, _⟩ => ⟨S64x1x512, .f32⟩
  | .local .scVector .vmem, ⟨2, _⟩ => ⟨S64x1x512, .f32⟩
  | _, _ => ⟨S16384x6x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (v14 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_17 : BitVec 32 := 0#32
  let v65 : BitVec 32 := Scalar.addi v2 c0_i32_17
  let c0_i32_18 : BitVec 32 := 0#32
  ![v65.toNat, v14.toNat, 0]

def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_22 : BitVec 32 := 0#32
  let v70 : BitVec 32 := Scalar.addi v2 c0_i32_22
  let c0_i32_23 : BitVec 32 := 0#32
  let c0_i32_24 : BitVec 32 := 0#32
  ![v70.toNat, 0, 0]
def k0_off3 (i : grid0.Coords) (v24 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_27 : BitVec 32 := 0#32
  let v73 : BitVec 32 := Scalar.addi v2 c0_i32_27
  let c0_i32_28 : BitVec 32 := 0#32
  ![v73.toNat, v24.toNat, 0]

def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_32 : BitVec 32 := 0#32
  let v78 : BitVec 32 := Scalar.addi v2 c0_i32_32
  let c1_i32_33 : BitVec 32 := 1#32
  let c0_i32_34 : BitVec 32 := 0#32
  ![v78.toNat, 1, 0]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_22 : BitVec 32 := 0#32
  let v70 : BitVec 32 := Scalar.addi v2 c0_i32_22
  let c0_i32_37 : BitVec 32 := 0#32
  let c0_i32_38 : BitVec 32 := 0#32
  ![v70.toNat, 0, 0]
def k0_off6 (i : grid0.Coords) (v34 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_41 : BitVec 32 := 0#32
  let v83 : BitVec 32 := Scalar.addi v2 c0_i32_41
  let c0_i32_42 : BitVec 32 := 0#32
  ![v83.toNat, v34.toNat, 0]

def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_46 : BitVec 32 := 0#32
  let v88 : BitVec 32 := Scalar.addi v2 c0_i32_46
  let c2_i32_47 : BitVec 32 := 2#32
  let c0_i32_48 : BitVec 32 := 0#32
  ![v88.toNat, 2, 0]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_32 : BitVec 32 := 0#32
  let v78 : BitVec 32 := Scalar.addi v2 c0_i32_32
  let c1_i32_51 : BitVec 32 := 1#32
  let c0_i32_52 : BitVec 32 := 0#32
  ![v78.toNat, 1, 0]
def k0_off9 (i : grid0.Coords) (v44 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_55 : BitVec 32 := 0#32
  let v93 : BitVec 32 := Scalar.addi v2 c0_i32_55
  let c0_i32_56 : BitVec 32 := 0#32
  ![v93.toNat, v44.toNat, 0]

def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let v98 : BitVec 32 := Scalar.addi v2 c0_i32_60
  let c3_i32_61 : BitVec 32 := 3#32
  let c0_i32_62 : BitVec 32 := 0#32
  ![v98.toNat, 3, 0]
def k0_off11 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_46 : BitVec 32 := 0#32
  let v88 : BitVec 32 := Scalar.addi v2 c0_i32_46
  let c2_i32_65 : BitVec 32 := 2#32
  let c0_i32_66 : BitVec 32 := 0#32
  ![v88.toNat, 2, 0]
def k0_off12 (i : grid0.Coords) (v54 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_69 : BitVec 32 := 0#32
  let v103 : BitVec 32 := Scalar.addi v2 c0_i32_69
  let c0_i32_70 : BitVec 32 := 0#32
  ![v103.toNat, v54.toNat, 0]

def k0_off13 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_74 : BitVec 32 := 0#32
  let v108 : BitVec 32 := Scalar.addi v2 c0_i32_74
  let c4_i32_75 : BitVec 32 := 4#32
  let c0_i32_76 : BitVec 32 := 0#32
  ![v108.toNat, 4, 0]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_60 : BitVec 32 := 0#32
  let v98 : BitVec 32 := Scalar.addi v2 c0_i32_60
  let c3_i32_79 : BitVec 32 := 3#32
  let c0_i32_80 : BitVec 32 := 0#32
  ![v98.toNat, 3, 0]
def k0_off15 (i : grid0.Coords) (v64 : BitVec 32) (c0_i32_83 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v113 : BitVec 32 := Scalar.addi v2 c0_i32_83
  let c0_i32_84 : BitVec 32 := 0#32
  ![v113.toNat, v64.toNat, 0]

def k0_chk6 (i : grid0.Coords) (v64 : BitVec 32) : Prop :=
  (∀ (r : Fin 8), ∀ a, (k0_off15 i v64 (BitVec.ofNat 32 (64 * r.val))) a + S64x1x512.size a ≤ S16384x6x512.size a)
theorem k0_off15_inb : ∀ (i : grid0.Coords) (v64 : BitVec 32) (k0_hw6 : k0_chk6 i v64), ∀ (r : Fin 8), ∀ a, (k0_off15 i v64 (BitVec.ofNat 32 (64 * r.val))) a + S64x1x512.size a ≤ S16384x6x512.size a := fun i v64 k0_hw6 r => k0_hw6 r

def k0_off16 (i : grid0.Coords) (c0_i32_88 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v118 : BitVec 32 := Scalar.addi v2 c0_i32_88
  let c5_i32_89 : BitVec 32 := 5#32
  let c0_i32_90 : BitVec 32 := 0#32
  ![v118.toNat, 5, 0]
def k0_off17 (i : grid0.Coords) (c0_i32_74 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v108 : BitVec 32 := Scalar.addi v2 c0_i32_74
  let c4_i32_93 : BitVec 32 := 4#32
  let c0_i32_94 : BitVec 32 := 0#32
  ![v108.toNat, 4, 0]
def k0_off18 (i : grid0.Coords) (v14 : BitVec 32) (c64_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v123 : BitVec 32 := Scalar.addi v2 c64_i32
  let c0_i32_97 : BitVec 32 := 0#32
  ![v123.toNat, v14.toNat, 0]

def k0_chk1 (i : grid0.Coords) (v14 : BitVec 32) : Prop :=
  (∀ a, (k0_off1 i v14) a + S64x1x512.size a ≤ S16384x6x512.size a) ∧
  (∀ (r : Fin 7), ∀ a, (k0_off18 i v14 (BitVec.ofNat 32 (64 + 64 * r.val))) a + S64x1x512.size a ≤ S16384x6x512.size a)
theorem k0_off1_inb : ∀ (i : grid0.Coords) (v14 : BitVec 32) (k0_hw1 : k0_chk1 i v14), ∀ a, (k0_off1 i v14) a + S64x1x512.size a ≤ S16384x6x512.size a := fun i v14 k0_hw1 => k0_hw1.1
theorem k0_off18_inb : ∀ (i : grid0.Coords) (v14 : BitVec 32) (k0_hw1 : k0_chk1 i v14), ∀ (r : Fin 7), ∀ a, (k0_off18 i v14 (BitVec.ofNat 32 (64 + 64 * r.val))) a + S64x1x512.size a ≤ S16384x6x512.size a := fun i v14 k0_hw1 r => k0_hw1.2 r

def k0_off19 (i : grid0.Coords) (c64_i32_101 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v128 : BitVec 32 := Scalar.addi v2 c64_i32_101
  let c0_i32_102 : BitVec 32 := 0#32
  let c0_i32_103 : BitVec 32 := 0#32
  ![v128.toNat, 0, 0]
def k0_off20 (i : grid0.Coords) (v24 : BitVec 32) (c64_i32_110 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v133 : BitVec 32 := Scalar.addi v2 c64_i32_110
  let c0_i32_111 : BitVec 32 := 0#32
  ![v133.toNat, v24.toNat, 0]

def k0_chk2 (i : grid0.Coords) (v24 : BitVec 32) : Prop :=
  (∀ a, (k0_off3 i v24) a + S64x1x512.size a ≤ S16384x6x512.size a) ∧
  (∀ (r : Fin 7), ∀ a, (k0_off20 i v24 (BitVec.ofNat 32 (64 + 64 * r.val))) a + S64x1x512.size a ≤ S16384x6x512.size a)
theorem k0_off3_inb : ∀ (i : grid0.Coords) (v24 : BitVec 32) (k0_hw2 : k0_chk2 i v24), ∀ a, (k0_off3 i v24) a + S64x1x512.size a ≤ S16384x6x512.size a := fun i v24 k0_hw2 => k0_hw2.1
theorem k0_off20_inb : ∀ (i : grid0.Coords) (v24 : BitVec 32) (k0_hw2 : k0_chk2 i v24), ∀ (r : Fin 7), ∀ a, (k0_off20 i v24 (BitVec.ofNat 32 (64 + 64 * r.val))) a + S64x1x512.size a ≤ S16384x6x512.size a := fun i v24 k0_hw2 r => k0_hw2.2 r

def k0_off21 (i : grid0.Coords) (c64_i32_115 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v138 : BitVec 32 := Scalar.addi v2 c64_i32_115
  let c1_i32_116 : BitVec 32 := 1#32
  let c0_i32_117 : BitVec 32 := 0#32
  ![v138.toNat, 1, 0]
def k0_off22 (i : grid0.Coords) (v34 : BitVec 32) (c64_i32_124 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v143 : BitVec 32 := Scalar.addi v2 c64_i32_124
  let c0_i32_125 : BitVec 32 := 0#32
  ![v143.toNat, v34.toNat, 0]

def k0_chk3 (i : grid0.Coords) (v34 : BitVec 32) : Prop :=
  (∀ a, (k0_off6 i v34) a + S64x1x512.size a ≤ S16384x6x512.size a) ∧
  (∀ (r : Fin 7), ∀ a, (k0_off22 i v34 (BitVec.ofNat 32 (64 + 64 * r.val))) a + S64x1x512.size a ≤ S16384x6x512.size a)
theorem k0_off6_inb : ∀ (i : grid0.Coords) (v34 : BitVec 32) (k0_hw3 : k0_chk3 i v34), ∀ a, (k0_off6 i v34) a + S64x1x512.size a ≤ S16384x6x512.size a := fun i v34 k0_hw3 => k0_hw3.1
theorem k0_off22_inb : ∀ (i : grid0.Coords) (v34 : BitVec 32) (k0_hw3 : k0_chk3 i v34), ∀ (r : Fin 7), ∀ a, (k0_off22 i v34 (BitVec.ofNat 32 (64 + 64 * r.val))) a + S64x1x512.size a ≤ S16384x6x512.size a := fun i v34 k0_hw3 r => k0_hw3.2 r

def k0_off23 (i : grid0.Coords) (c64_i32_129 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v148 : BitVec 32 := Scalar.addi v2 c64_i32_129
  let c2_i32_130 : BitVec 32 := 2#32
  let c0_i32_131 : BitVec 32 := 0#32
  ![v148.toNat, 2, 0]
def k0_off24 (i : grid0.Coords) (v44 : BitVec 32) (c64_i32_138 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v153 : BitVec 32 := Scalar.addi v2 c64_i32_138
  let c0_i32_139 : BitVec 32 := 0#32
  ![v153.toNat, v44.toNat, 0]

def k0_chk4 (i : grid0.Coords) (v44 : BitVec 32) : Prop :=
  (∀ a, (k0_off9 i v44) a + S64x1x512.size a ≤ S16384x6x512.size a) ∧
  (∀ (r : Fin 7), ∀ a, (k0_off24 i v44 (BitVec.ofNat 32 (64 + 64 * r.val))) a + S64x1x512.size a ≤ S16384x6x512.size a)
theorem k0_off9_inb : ∀ (i : grid0.Coords) (v44 : BitVec 32) (k0_hw4 : k0_chk4 i v44), ∀ a, (k0_off9 i v44) a + S64x1x512.size a ≤ S16384x6x512.size a := fun i v44 k0_hw4 => k0_hw4.1
theorem k0_off24_inb : ∀ (i : grid0.Coords) (v44 : BitVec 32) (k0_hw4 : k0_chk4 i v44), ∀ (r : Fin 7), ∀ a, (k0_off24 i v44 (BitVec.ofNat 32 (64 + 64 * r.val))) a + S64x1x512.size a ≤ S16384x6x512.size a := fun i v44 k0_hw4 r => k0_hw4.2 r

def k0_off25 (i : grid0.Coords) (c64_i32_143 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v158 : BitVec 32 := Scalar.addi v2 c64_i32_143
  let c3_i32_144 : BitVec 32 := 3#32
  let c0_i32_145 : BitVec 32 := 0#32
  ![v158.toNat, 3, 0]
def k0_off26 (i : grid0.Coords) (v54 : BitVec 32) (c64_i32_152 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v163 : BitVec 32 := Scalar.addi v2 c64_i32_152
  let c0_i32_153 : BitVec 32 := 0#32
  ![v163.toNat, v54.toNat, 0]

def k0_chk5 (i : grid0.Coords) (v54 : BitVec 32) : Prop :=
  (∀ a, (k0_off12 i v54) a + S64x1x512.size a ≤ S16384x6x512.size a) ∧
  (∀ (r : Fin 7), ∀ a, (k0_off26 i v54 (BitVec.ofNat 32 (64 + 64 * r.val))) a + S64x1x512.size a ≤ S16384x6x512.size a)
theorem k0_off12_inb : ∀ (i : grid0.Coords) (v54 : BitVec 32) (k0_hw5 : k0_chk5 i v54), ∀ a, (k0_off12 i v54) a + S64x1x512.size a ≤ S16384x6x512.size a := fun i v54 k0_hw5 => k0_hw5.1
theorem k0_off26_inb : ∀ (i : grid0.Coords) (v54 : BitVec 32) (k0_hw5 : k0_chk5 i v54), ∀ (r : Fin 7), ∀ a, (k0_off26 i v54 (BitVec.ofNat 32 (64 + 64 * r.val))) a + S64x1x512.size a ≤ S16384x6x512.size a := fun i v54 k0_hw5 r => k0_hw5.2 r

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x6x512 : Shape := ⟨3, ![16384, 6, 512]⟩
abbrev S6 : Shape := ⟨1, ![6]⟩
abbrev S_ : Shape := ⟨0, ![]⟩
abbrev S6x1 : Shape := ⟨2, ![6, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x6x512, .f32⟩
  | .hbm, ⟨1, _⟩ => ⟨S6, .i32⟩
  | .hbm, ⟨2, _⟩ => ⟨S_, .i32⟩
  | .hbm, ⟨3, _⟩ => ⟨S6, .i32⟩
  | .hbm, ⟨4, _⟩ => ⟨S6, .i1⟩
  | .hbm, ⟨5, _⟩ => ⟨S_, .i32⟩
  | .hbm, ⟨6, _⟩ => ⟨S6, .i32⟩
  | .hbm, ⟨7, _⟩ => ⟨S6, .i32⟩
  | .hbm, ⟨8, _⟩ => ⟨S6, .i32⟩
  | .hbm, ⟨9, _⟩ => ⟨S6x1, .i32⟩
  | .hbm, ⟨10, _⟩ => ⟨S1, .i32⟩
  | .hbm, ⟨11, _⟩ => ⟨S_, .i32⟩
  | .hbm, ⟨12, _⟩ => ⟨S6x1, .i32⟩
  | .hbm, ⟨13, _⟩ => ⟨S6x1, .i1⟩
  | .hbm, ⟨14, _⟩ => ⟨S1x1, .i32⟩
  | .hbm, ⟨15, _⟩ => ⟨S6x1, .i32⟩
  | .hbm, ⟨16, _⟩ => ⟨S6x1, .i1⟩
  | .hbm, ⟨17, _⟩ => ⟨S6x1, .i1⟩
  | .hbm, ⟨18, _⟩ => ⟨S_, .i1⟩
  | .hbm, ⟨19, _⟩ => ⟨S6, .i1⟩
  | .hbm, ⟨20, _⟩ => ⟨S16384x6x512, .f32⟩
  | .hbm, ⟨21, _⟩ => ⟨S16384x6x512, .i1⟩
  | .hbm, ⟨22, _⟩ => ⟨S_, .f32⟩
  | .hbm, ⟨23, _⟩ => ⟨S16384x6x512, .f32⟩
  | .hbm, ⟨24, _⟩ => ⟨S16384x6x512, .f32⟩
  | _, _ => ⟨S16384x6x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Schedule.lean ====
/-
  THE TILE'S PROGRAM, as a schedule. A tile's body, after it has read the six row numbers, is 48 slab copies in a row:
  slab `t` is rows `64·(t/6) …+64` of the tile's 512 rows, at column `t % 6` of the output, fetched from column
  `pis (t % 6)` of the input. Slabs alternate between two buffers (`p = false`, `true`), each buffer with a semaphore for
  its fetches and one for its write-outs. Here are the actions of such a schedule; that the printed body is one, in order, is
  Windows.lean's `rest_eq`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Schedule

open Cert.KernelIdeal Cert.KernelIdeal.Gen
open Idealize.ShloMosaic Idealize.SL.Sem

variable {F : FTy → Type}

/-! ## The arrays and the buffers, as a tile names them -/

/-- The input `x`. -/
abbrev xV : Memref sig .scVector .hbm S16384x6x512 .f32 := Memref.whole main_arg0_scv
/-- The table of row numbers. -/
abbrev tV : Memref sig .scVector .hbm S16 .i32 := Memref.whole main_v2_scv
/-- The output. -/
abbrev oV : Memref sig .scVector .hbm S16384x6x512 .f32 := Memref.whole main_v3_scv
/-- The tile's copy of the table. -/
abbrev sV : Memref sig .scVector .vmem S16 .i32 := Memref.whole cc0_scratch0
/-- The buffer of even slabs. -/
abbrev aV : Memref sig .scVector .vmem S64x1x512 .f32 := Memref.whole cc0_scratch1
/-- The buffer of odd slabs. -/
abbrev bV : Memref sig .scVector .vmem S64x1x512 .f32 := Memref.whole cc0_scratch2

/-- The slab buffer of parity `p`. -/
def bufM (p : Bool) : Memref sig .scVector .vmem S64x1x512 .f32 := bif p then bV else aV
/-- The semaphore of the fetches into buffer `p`. -/
def gs (p : Bool) : DmaSems sig S_ := bif p then cc0_scratch4 else cc0_scratch3
/-- The semaphore of the write-outs of buffer `p`. -/
def ws (p : Bool) : DmaSems sig S_ := bif p then cc0_scratch6 else cc0_scratch5

theorem buf_wordExact (p : Bool) : (bufM p).view.WordExact := by cases p <;> exact (Memref.isWhole_whole _).wordExact

/-! ## The slabs -/

/-- Row `k` of the tile's rows, as the body computes it. -/
def rowB (i : grid0.Coords) (k : BitVec 32) : BitVec 32 :=
  Scalar.addi (Scalar.muli (Scalar.addi (Scalar.muli (BitVec.ofNat 32 (i 1).val) 2#32) (BitVec.ofNat 32 (i 0).val)) 512#32) k

theorem rowB_toNat (i : grid0.Coords) (k : ℕ) (hk : k < 512) :
    (rowB i (BitVec.ofNat 32 k)).toNat = ((i 1).val * 2 + (i 0).val) * 512 + k := by
  have h0 : (i 0).val < 2 := (i 0).isLt
  have h1 : (i 1).val < 16 := (i 1).isLt
  simp only [rowB, Scalar.addi, Scalar.muli, IntOp.addi, IntOp.muli, BitVec.toNat_add, BitVec.toNat_mul, BitVec.toNat_ofNat]
  omega

/-- Where slab `t` is fetched from: its rows, at the column the table names. -/
def gOff (i : grid0.Coords) (pis : ℕ → BitVec 32) (t : ℕ) : Fin 3 → ℕ := ![(rowB i (BitVec.ofNat 32 (64 * (t / 6 % 8)))).toNat, (pis (t % 6)).toNat, 0]
/-- Where slab `t` is written: its rows, at its column. -/
def wOff (i : grid0.Coords) (t : ℕ) : Fin 3 → ℕ := ![(rowB i (BitVec.ofNat 32 (64 * (t / 6 % 8)))).toNat, t % 6, 0]

theorem wOff_inb (i : grid0.Coords) (t : ℕ) : ∀ a, wOff i t a + S64x1x512.size a ≤ S16384x6x512.size a := by
  have h0 : (i 0).val < 2 := (i 0).isLt
  have h1 : (i 1).val < 16 := (i 1).isLt
  intro a
  match a with
  | 0 => show (rowB i _).toNat + 64 ≤ 16384; rw [rowB_toNat i _ (by omega)]; omega
  | 1 => show t % 6 + 1 ≤ 6; omega
  | 2 => show 0 + 512 ≤ 512; omega

/-- Slabs fetched from the table's columns lie in the input when the columns do. -/
theorem gOff_inb (i : grid0.Coords) (pis : ℕ → BitVec 32) (h : ∀ k, (pis k).toNat < 6) (t : ℕ) :
    ∀ a, gOff i pis t a + S64x1x512.size a ≤ S16384x6x512.size a := by
  have h0 : (i 0).val < 2 := (i 0).isLt
  have h1 : (i 1).val < 16 := (i 1).isLt
  have h2 := h (t % 6)
  intro a
  match a with
  | 0 => show (rowB i _).toNat + 64 ≤ 16384; rw [rowB_toNat i _ (by omega)]; omega
  | 1 => show (pis (t % 6)).toNat + 1 ≤ 6; omega
  | 2 => show 0 + 512 ≤ 512; omega

section

variable (i : grid0.Coords) (pis : ℕ → BitVec 32) (hg : ∀ t a, gOff i pis t a + S64x1x512.size a ≤ S16384x6x512.size a)

/-- Slab `t` of the input. -/
def xSl (t : ℕ) : Memref sig .scVector .hbm S64x1x512 .f32 := xV.slice (Rect.unit (s := S16384x6x512) (gOff i pis t) S64x1x512.size (hg t)) (fun _ => rfl)
/-- Slab `t` of the output. -/
def oSl (t : ℕ) : Memref sig .scVector .hbm S64x1x512 .f32 := oV.slice (Rect.unit (s := S16384x6x512) (wOff i t) S64x1x512.size (wOff_inb i t)) (fun _ => rfl)

theorem xSl_wordExact (t : ℕ) : (xSl i pis hg t).view.WordExact := View.wordExact_bits rfl
theorem oSl_wordExact (t : ℕ) : (oSl i t).view.WordExact := View.wordExact_bits rfl

/-- One copy or wait of the schedule: slab `t`'s fetch into buffer `p` issued (`G`), its fetch awaited (`wG`), its
    write-out from buffer `p` issued (`W`), its write-out awaited (`wW`). -/
inductive Act where
  | G (p : Bool) (t : ℕ)
  | wG (p : Bool) (t : ℕ)
  | W (p : Bool) (t : ℕ)
  | wW (p : Bool) (t : ℕ)

/-- A tile's programs. -/
abbrev TProg (F : FTy → Type) (i : grid0.Coords) (α : Type) : Type 1 :=
  Prog (TpuEff nD τ sig (Elt F) Λ₀ (.scVector ((i 0).castLE hcore0) ((i 1).castLE hsub0))) α

/-- One copy or wait, as the body issues it. -/
def act : Act → TProg F i PUnit
  | .G p t => Prog.lift (.enqueueDma (xSl i pis hg t) (.here (bufM p)) (.dma (gs p).sem) (xSl_wordExact i pis hg t) (buf_wordExact p) ⟨Or.inl rfl, trivial⟩)
  | .wG p t => Prog.lift (.waitDma2 (gs p).sem (xSl i pis hg t) (bufM p) (xSl_wordExact i pis hg t) (buf_wordExact p))
  | .W p t => Prog.lift (.enqueueDma (bufM p) (.here (oSl i t)) (.dma (ws p).sem) (buf_wordExact p) (oSl_wordExact i t) ⟨Or.inl rfl, trivial⟩)
  | .wW p t => Prog.lift (.waitDma2 (ws p).sem (bufM p) (oSl i t) (buf_wordExact p) (oSl_wordExact i t))

/-- Copies and waits in a row. -/
def runs : List Act → TProg F i PUnit
  | [] => pure ⟨⟩
  | a :: l => act i pis hg a >>= fun _ => runs l

theorem runs_append (l l' : List Act) : runs (F := F) i pis hg (l ++ l') = (runs i pis hg l >>= fun _ => runs i pis hg l') := by
  induction l with
  | nil => rfl
  | cons a l ih => simp only [List.cons_append, runs, bind_assoc, ih]

end

/-! ## The body's windows -/

/-- The six row numbers. -/
def pisOf (v14 v24 v34 v44 v54 v64 : BitVec 32) : ℕ → BitVec 32
  | 0 => v14 | 1 => v24 | 2 => v34 | 3 => v44 | 4 => v54 | _ => v64

end Cert.Proof.Schedule

end
-- ==== Proof.Windows.lean ====
/-
  THE PRINTED BODY IS THE SCHEDULE. The body is printed in windows of a few statements each. Every window is the list of
  copies and waits that it holds (`part3_eq` and its neighbours, each by unfolding), and the lists in a row are the
  schedule: a start, 46 equal steps and an end (`rest_eq`). From here on only the step is reasoned about.
-/
module

public import proofs.«01_k».proof.Proof.Schedule

@[expose] public section

noncomputable section

namespace Cert.Proof.Schedule

open Cert.KernelIdeal Cert.KernelIdeal.Gen
open Idealize.ShloMosaic Idealize.SL.Sem

variable {F : FTy → Type}

section

variable [FloatOps F] (i : grid0.Coords) (v14 v24 v34 v44 v54 v64 : BitVec 32)
  (k0_hw1 : k0_chk1 i v14) (k0_hw2 : k0_chk2 i v24) (k0_hw3 : k0_chk3 i v34) (k0_hw4 : k0_chk4 i v44) (k0_hw5 : k0_chk5 i v54) (k0_hw6 : k0_chk6 i v64)
  (hg : ∀ t a, gOff i (pisOf v14 v24 v34 v44 v54 v64) t a + S64x1x512.size a ≤ S16384x6x512.size a)

/-- The copies and waits of window 3. -/
def w3 : List Act := [.W false 0, .G true 1, .wG true 1, .W true 1, .wW false 0, .G false 2, .wG false 2, .W false 2, .wW true 1]
/-- Window 3 of the kernel's body is the copies and waits `w3`. -/
theorem part3_eq (v2 : BitVec 32) (kk : BitVec 32 → TProg F i PUnit) :
    (k0_part3 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v24 k0_hw2 v34 k0_hw3 >>= kk)
      = (runs (F := F) i (pisOf v14 v24 v34 v44 v54 v64) hg
          w3 >>= fun _ => kk 0#32) := rfl

/-- The copies and waits of window 4. -/
def w4 : List Act := [.G true 3, .wG true 3, .W true 3, .wW false 2, .G false 4, .wG false 4, .W false 4, .wW true 3]
/-- Window 4 of the kernel's body is the copies and waits `w4`. -/
theorem part4_eq (v2 : BitVec 32) (c0_i32_55 : BitVec 32) (kk : PUnit → TProg F i PUnit) :
    (k0_part4 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v44 k0_hw4 v54 k0_hw5 v64 k0_hw6 c0_i32_55 >>= kk)
      = (runs (F := F) i (pisOf v14 v24 v34 v44 v54 v64) hg
          w4 >>= fun _ => kk ⟨⟩) := rfl

/-- The copies and waits of window 5. -/
def w5 : List Act := [.G true 5, .wG true 5, .W true 5, .wW false 4, .G false 6, .wG false 6, .W false 6, .wW true 5, .G true 7]
/-- Window 5 of the kernel's body is the copies and waits `w5`. -/
theorem part5_eq (v2 : BitVec 32) (kk : PUnit → TProg F i PUnit) :
    (k0_part5 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v14 k0_hw1 v24 k0_hw2 v64 k0_hw6 >>= kk)
      = (runs (F := F) i (pisOf v14 v24 v34 v44 v54 v64) hg
          w5 >>= fun _ => kk ⟨⟩) := rfl

/-- The copies and waits of window 6. -/
def w6 : List Act := [.wG true 7, .W true 7, .wW false 6, .G false 8, .wG false 8, .W false 8, .wW true 7, .G true 9, .wG true 9]
/-- Window 6 of the kernel's body is the copies and waits `w6`. -/
theorem part6_eq (v2 : BitVec 32) (kk : BitVec 32 → TProg F i PUnit) :
    (k0_part6 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v24 k0_hw2 v34 k0_hw3 v44 k0_hw4 >>= kk)
      = (runs (F := F) i (pisOf v14 v24 v34 v44 v54 v64) hg
          w6 >>= fun _ => kk 64#32) := rfl

/-- The copies and waits of window 7. -/
def w7 : List Act := [.W true 9, .wW false 8, .G false 10, .wG false 10, .W false 10, .wW true 9, .G true 11, .wG true 11]
/-- Window 7 of the kernel's body is the copies and waits `w7`. -/
theorem part7_eq (v2 : BitVec 32) (c64_i32_143 : BitVec 32) (kk : PUnit → TProg F i PUnit) :
    (k0_part7 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v54 k0_hw5 v64 k0_hw6 c64_i32_143 >>= kk)
      = (runs (F := F) i (pisOf v14 v24 v34 v44 v54 v64) hg
          w7 >>= fun _ => kk ⟨⟩) := rfl

/-- The copies and waits of window 8. -/
def w8 : List Act := [.W true 11, .wW false 10, .G false 12, .wG false 12, .W false 12, .wW true 11, .G true 13, .wG true 13, .W true 13]
/-- Window 8 of the kernel's body is the copies and waits `w8`. -/
theorem part8_eq (v2 : BitVec 32) (kk : PUnit → TProg F i PUnit) :
    (k0_part8 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v14 k0_hw1 v24 k0_hw2 >>= kk)
      = (runs (F := F) i (pisOf v14 v24 v34 v44 v54 v64) hg
          w8 >>= fun _ => kk ⟨⟩) := rfl

/-- The copies and waits of window 9. -/
def w9 : List Act := [.wW false 12, .G false 14, .wG false 14, .W false 14, .wW true 13, .G true 15, .wG true 15, .W true 15]
/-- Window 9 of the kernel's body is the copies and waits `w9`. -/
theorem part9_eq (v2 : BitVec 32) (kk : PUnit → TProg F i PUnit) :
    (k0_part9 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v34 k0_hw3 v44 k0_hw4 >>= kk)
      = (runs (F := F) i (pisOf v14 v24 v34 v44 v54 v64) hg
          w9 >>= fun _ => kk ⟨⟩) := rfl

/-- The copies and waits of window 10. -/
def w10 : List Act := [.wW false 14, .G false 16, .wG false 16, .W false 16, .wW true 15, .G true 17, .wG true 17, .W true 17, .wW false 16]
/-- Window 10 of the kernel's body is the copies and waits `w10`. -/
theorem part10_eq (v2 : BitVec 32) (kk : BitVec 32 → TProg F i PUnit) :
    (k0_part10 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v54 k0_hw5 v64 k0_hw6 >>= kk)
      = (runs (F := F) i (pisOf v14 v24 v34 v44 v54 v64) hg
          w10 >>= fun _ => kk 192#32) := rfl

/-- The copies and waits of window 11. -/
def w11 : List Act := [.G false 18, .wG false 18, .W false 18, .wW true 17, .G true 19, .wG true 19, .W true 19, .wW false 18]
/-- Window 11 of the kernel's body is the copies and waits `w11`. -/
theorem part11_eq (v2 : BitVec 32) (c192_i32 : BitVec 32) (kk : PUnit → TProg F i PUnit) :
    (k0_part11 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v14 k0_hw1 v24 k0_hw2 v34 k0_hw3 c192_i32 >>= kk)
      = (runs (F := F) i (pisOf v14 v24 v34 v44 v54 v64) hg
          w11 >>= fun _ => kk ⟨⟩) := rfl

/-- The copies and waits of window 12. -/
def w12 : List Act := [.G false 20, .wG false 20, .W false 20, .wW true 19, .G true 21, .wG true 21, .W true 21, .wW false 20, .G false 22]
/-- Window 12 of the kernel's body is the copies and waits `w12`. -/
theorem part12_eq (v2 : BitVec 32) (kk : PUnit → TProg F i PUnit) :
    (k0_part12 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v34 k0_hw3 v44 k0_hw4 v54 k0_hw5 >>= kk)
      = (runs (F := F) i (pisOf v14 v24 v34 v44 v54 v64) hg
          w12 >>= fun _ => kk ⟨⟩) := rfl

/-- The copies and waits of window 13. -/
def w13 : List Act := [.wG false 22, .W false 22, .wW true 21, .G true 23, .wG true 23, .W true 23, .wW false 22, .G false 24, .wG false 24]
/-- Window 13 of the kernel's body is the copies and waits `w13`. -/
theorem part13_eq (v2 : BitVec 32) (kk : BitVec 32 → TProg F i PUnit) :
    (k0_part13 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v14 k0_hw1 v54 k0_hw5 v64 k0_hw6 >>= kk)
      = (runs (F := F) i (pisOf v14 v24 v34 v44 v54 v64) hg
          w13 >>= fun _ => kk 256#32) := rfl

/-- The copies and waits of window 14. -/
def w14 : List Act := [.W false 24, .wW true 23, .G true 25, .wG true 25, .W true 25, .wW false 24, .G false 26, .wG false 26]
/-- Window 14 of the kernel's body is the copies and waits `w14`. -/
theorem part14_eq (v2 : BitVec 32) (c256_i32_350 : BitVec 32) (kk : PUnit → TProg F i PUnit) :
    (k0_part14 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v24 k0_hw2 v34 k0_hw3 c256_i32_350 >>= kk)
      = (runs (F := F) i (pisOf v14 v24 v34 v44 v54 v64) hg
          w14 >>= fun _ => kk ⟨⟩) := rfl

/-- The copies and waits of window 15. -/
def w15 : List Act := [.W false 26, .wW true 25, .G true 27, .wG true 27, .W true 27, .wW false 26, .G false 28, .wG false 28, .W false 28]
/-- Window 15 of the kernel's body is the copies and waits `w15`. -/
theorem part15_eq (v2 : BitVec 32) (kk : PUnit → TProg F i PUnit) :
    (k0_part15 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v44 k0_hw4 v54 k0_hw5 >>= kk)
      = (runs (F := F) i (pisOf v14 v24 v34 v44 v54 v64) hg
          w15 >>= fun _ => kk ⟨⟩) := rfl

/-- The copies and waits of window 16. -/
def w16 : List Act := [.wW true 27, .G true 29, .wG true 29, .W true 29, .wW false 28, .G false 30, .wG false 30, .W false 30]
/-- Window 16 of the kernel's body is the copies and waits `w16`. -/
theorem part16_eq (v2 : BitVec 32) (kk : PUnit → TProg F i PUnit) :
    (k0_part16 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v14 k0_hw1 v64 k0_hw6 >>= kk)
      = (runs (F := F) i (pisOf v14 v24 v34 v44 v54 v64) hg
          w16 >>= fun _ => kk ⟨⟩) := rfl

/-- The copies and waits of window 17. -/
def w17 : List Act := [.wW true 29, .G true 31, .wG true 31, .W true 31, .wW false 30, .G false 32, .wG false 32, .W false 32, .wW true 31]
/-- Window 17 of the kernel's body is the copies and waits `w17`. -/
theorem part17_eq (v2 : BitVec 32) (kk : BitVec 32 → TProg F i PUnit) :
    (k0_part17 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v24 k0_hw2 v34 k0_hw3 >>= kk)
      = (runs (F := F) i (pisOf v14 v24 v34 v44 v54 v64) hg
          w17 >>= fun _ => kk 320#32) := rfl

/-- The copies and waits of window 18. -/
def w18 : List Act := [.G true 33, .wG true 33, .W true 33, .wW false 32, .G false 34, .wG false 34, .W false 34, .wW true 33]
/-- Window 18 of the kernel's body is the copies and waits `w18`. -/
theorem part18_eq (v2 : BitVec 32) (c320_i32_470 : BitVec 32) (kk : PUnit → TProg F i PUnit) :
    (k0_part18 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v44 k0_hw4 v54 k0_hw5 v64 k0_hw6 c320_i32_470 >>= kk)
      = (runs (F := F) i (pisOf v14 v24 v34 v44 v54 v64) hg
          w18 >>= fun _ => kk ⟨⟩) := rfl

/-- The copies and waits of window 19. -/
def w19 : List Act := [.G true 35, .wG true 35, .W true 35, .wW false 34, .G false 36, .wG false 36, .W false 36, .wW true 35, .G true 37]
/-- Window 19 of the kernel's body is the copies and waits `w19`. -/
theorem part19_eq (v2 : BitVec 32) (kk : PUnit → TProg F i PUnit) :
    (k0_part19 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v14 k0_hw1 v24 k0_hw2 v64 k0_hw6 >>= kk)
      = (runs (F := F) i (pisOf v14 v24 v34 v44 v54 v64) hg
          w19 >>= fun _ => kk ⟨⟩) := rfl

/-- The copies and waits of window 20. -/
def w20 : List Act := [.wG true 37, .W true 37, .wW false 36, .G false 38, .wG false 38, .W false 38, .wW true 37, .G true 39, .wG true 39]
/-- Window 20 of the kernel's body is the copies and waits `w20`. -/
theorem part20_eq (v2 : BitVec 32) (kk : BitVec 32 → TProg F i PUnit) :
    (k0_part20 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v24 k0_hw2 v34 k0_hw3 v44 k0_hw4 >>= kk)
      = (runs (F := F) i (pisOf v14 v24 v34 v44 v54 v64) hg
          w20 >>= fun _ => kk 384#32) := rfl

/-- The copies and waits of window 21. -/
def w21 : List Act := [.W true 39, .wW false 38, .G false 40, .wG false 40, .W false 40, .wW true 39, .G true 41, .wG true 41]
/-- Window 21 of the kernel's body is the copies and waits `w21`. -/
theorem part21_eq (v2 : BitVec 32) (c384_i32_558 : BitVec 32) (kk : PUnit → TProg F i PUnit) :
    (k0_part21 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v54 k0_hw5 v64 k0_hw6 c384_i32_558 >>= kk)
      = (runs (F := F) i (pisOf v14 v24 v34 v44 v54 v64) hg
          w21 >>= fun _ => kk ⟨⟩) := rfl

/-- The copies and waits of window 22. -/
def w22 : List Act := [.W true 41, .wW false 40, .G false 42, .wG false 42, .W false 42, .wW true 41, .G true 43, .wG true 43, .W true 43]
/-- Window 22 of the kernel's body is the copies and waits `w22`. -/
theorem part22_eq (v2 : BitVec 32) (kk : PUnit → TProg F i PUnit) :
    (k0_part22 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v14 k0_hw1 v24 k0_hw2 >>= kk)
      = (runs (F := F) i (pisOf v14 v24 v34 v44 v54 v64) hg
          w22 >>= fun _ => kk ⟨⟩) := rfl

/-- The copies and waits of window 23. -/
def w23 : List Act := [.wW false 42, .G false 44, .wG false 44, .W false 44, .wW true 43, .G true 45, .wG true 45, .W true 45]
/-- Window 23 of the kernel's body is the copies and waits `w23`. -/
theorem part23_eq (v2 : BitVec 32) (kk : PUnit → TProg F i PUnit) :
    (k0_part23 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v34 k0_hw3 v44 k0_hw4 >>= kk)
      = (runs (F := F) i (pisOf v14 v24 v34 v44 v54 v64) hg
          w23 >>= fun _ => kk ⟨⟩) := rfl

/-- The copies and waits of window 24. -/
def w24 : List Act := [.wW false 44, .G false 46, .wG false 46, .W false 46, .wW true 45, .G true 47, .wG true 47, .W true 47, .wW false 46]
/-- Window 24 of the kernel's body is the copies and waits `w24`. -/
theorem part24_eq (v2 : BitVec 32) (kk : PUnit → TProg F i PUnit) :
    (k0_part24 i xV (Memref.isWhole_whole _) tV (Memref.isWhole_whole _) oV (Memref.isWhole_whole _) sV (Memref.isWhole_whole _)
      aV (Memref.isWhole_whole _) bV (Memref.isWhole_whole _) cc0_scratch3 cc0_scratch4 cc0_scratch5 cc0_scratch6 cc0_scoped0 v2 v54 k0_hw5 v64 k0_hw6 >>= kk)
      = (runs (F := F) i (pisOf v14 v24 v34 v44 v54 v64) hg
          w24 >>= fun _ => kk ⟨⟩) := rfl

/-- What a tile does after the first slab has been fetched: the body's windows from the third. -/
def rest (v2 : BitVec 32) : TProg F i PUnit := do
  let c0_i32_55 ← k0_part3 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v24 k0_hw2 v34 k0_hw3
  k0_part4 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v44 k0_hw4 v54 k0_hw5 v64 k0_hw6 c0_i32_55
  k0_part5 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v14 k0_hw1 v24 k0_hw2 v64 k0_hw6
  let c64_i32_143 ← k0_part6 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v24 k0_hw2 v34 k0_hw3 v44 k0_hw4
  k0_part7 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v54 k0_hw5 v64 k0_hw6 c64_i32_143
  k0_part8 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v14 k0_hw1 v24 k0_hw2
  k0_part9 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v34 k0_hw3 v44 k0_hw4
  let c192_i32 ← k0_part10 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v54 k0_hw5 v64 k0_hw6
  k0_part11 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v14 k0_hw1 v24 k0_hw2 v34 k0_hw3 c192_i32
  k0_part12 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v34 k0_hw3 v44 k0_hw4 v54 k0_hw5
  let c256_i32_350 ← k0_part13 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v14 k0_hw1 v54 k0_hw5 v64 k0_hw6
  k0_part14 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v24 k0_hw2 v34 k0_hw3 c256_i32_350
  k0_part15 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v44 k0_hw4 v54 k0_hw5
  k0_part16 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v14 k0_hw1 v64 k0_hw6
  let c320_i32_470 ← k0_part17 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v24 k0_hw2 v34 k0_hw3
  k0_part18 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v44 k0_hw4 v54 k0_hw5 v64 k0_hw6 c320_i32_470
  k0_part19 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v14 k0_hw1 v24 k0_hw2 v64 k0_hw6
  let c384_i32_558 ← k0_part20 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v24 k0_hw2 v34 k0_hw3 v44 k0_hw4
  k0_part21 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v54 k0_hw5 v64 k0_hw6 c384_i32_558
  k0_part22 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v14 k0_hw1 v24 k0_hw2
  k0_part23 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v34 k0_hw3 v44 k0_hw4
  k0_part24 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v54 k0_hw5 v64 k0_hw6
  Prog.lift (.waitDma2 (cc0_scratch6).sem bV (oV.slice (Rect.unit (s := S16384x6x512) (k0_off16 i 448#32) S64x1x512.size (k0_off16_inb i 7)) (fun _ => rfl))
    (Memref.isWhole_whole _).wordExact (View.wordExact_bits rfl))
  pure ⟨⟩

/-- The tile's body: the table read and its numbers checked, the first slab fetched, and the rest. -/
theorem body_eq :
    cc0__shuffle_slabs (F := F) i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0
      = (do
        let ⟨v2, v3, v4, v14, k0_hw1, v24, k0_hw2, v34, k0_hw3, v36⟩ ← k0_part1 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0
        let ⟨v44, k0_hw4, v54, k0_hw5, v64, k0_hw6⟩ ← k0_part2 i xV (Memref.isWhole_whole _) tV (Memref.isWhole_whole _) oV (Memref.isWhole_whole _) sV (Memref.isWhole_whole _) aV (Memref.isWhole_whole _) bV (Memref.isWhole_whole _) cc0_scratch3 cc0_scratch4 cc0_scratch5 cc0_scratch6 cc0_scoped0 v2 v3 v4 v14 k0_hw1 v36
        rest i v14 v24 v34 v44 v54 v64 k0_hw1 k0_hw2 k0_hw3 k0_hw4 k0_hw5 k0_hw6 v2) := rfl

/-- One step of the schedule: slab `t` (in buffer `p`) arrives, its write-out starts; the write-out before it ends, so
    that the other buffer takes the next slab. -/
def step (p : Bool) (t : ℕ) : List Act := [.wG p t, .W p t, .wW (!p) (t - 1), .G (!p) (t + 1)]
/-- `n` steps from slab `t`. -/
def steps (p : Bool) (t : ℕ) : ℕ → List Act
  | 0 => []
  | n + 1 => step p t ++ steps (!p) (t + 1) n

/-- The schedule's start: the first write-out and the second fetch issued. -/
def lead : List Act := [.W false 0, .G true 1]
/-- The schedule's end: the last slab's arrival and write-out, and the ends of the last two write-outs. -/
def trail : List Act := [.wG true 47, .W true 47, .wW false 46, .wW true 47]
/-- The wait that ends the body. -/
def wLast : List Act := [.wW true 47]

/-- Copies and waits, followed by more of them. -/
theorem glue (pis : ℕ → BitVec 32) (hg : ∀ t a, gOff i pis t a + S64x1x512.size a ≤ S16384x6x512.size a) {l l' : List Act} {k : TProg F i PUnit}
    (h : k = runs i pis hg l') : (runs i pis hg l >>= fun _ => k) = runs i pis hg (l ++ l') := by
  rw [h, runs_append]

/-- The rest of the body is: the first write-out and the second fetch started, 46 steps, and the last slab's arrival,
    write-out and the last two write-outs' ends. -/
theorem rest_eq (v2 : BitVec 32) :
    rest (F := F) i v14 v24 v34 v44 v54 v64 k0_hw1 k0_hw2 k0_hw3 k0_hw4 k0_hw5 k0_hw6 v2
      = runs i (pisOf v14 v24 v34 v44 v54 v64) hg
          (lead ++ (steps true 1 46 ++ trail)) := by
  have hl : lead ++ (steps true 1 46 ++ trail) = w3 ++ (w4 ++ (w5 ++ (w6 ++ (w7 ++ (w8 ++ (w9 ++ (w10 ++ (w11 ++ (w12 ++ (w13 ++ (w14 ++ (w15 ++ (w16 ++ (w17 ++ (w18 ++ (w19 ++ (w20 ++ (w21 ++ (w22 ++ (w23 ++ (w24 ++ (wLast)))))))))))))))))))))) := rfl
  refine Eq.trans ?_ (congrArg (runs i (pisOf v14 v24 v34 v44 v54 v64) hg) hl.symm)
  unfold rest
  refine (part3_eq (hg := hg) _ _ ..).trans (glue i _ hg ?_)
  refine (part4_eq (hg := hg) _ _ _ ..).trans (glue i _ hg ?_)
  refine (part5_eq (hg := hg) _ _ ..).trans (glue i _ hg ?_)
  refine (part6_eq (hg := hg) _ _ ..).trans (glue i _ hg ?_)
  refine (part7_eq (hg := hg) _ _ _ ..).trans (glue i _ hg ?_)
  refine (part8_eq (hg := hg) _ _ ..).trans (glue i _ hg ?_)
  refine (part9_eq (hg := hg) _ _ ..).trans (glue i _ hg ?_)
  refine (part10_eq (hg := hg) _ _ ..).trans (glue i _ hg ?_)
  refine (part11_eq (hg := hg) _ _ _ ..).trans (glue i _ hg ?_)
  refine (part12_eq (hg := hg) _ _ ..).trans (glue i _ hg ?_)
  refine (part13_eq (hg := hg) _ _ ..).trans (glue i _ hg ?_)
  refine (part14_eq (hg := hg) _ _ _ ..).trans (glue i _ hg ?_)
  refine (part15_eq (hg := hg) _ _ ..).trans (glue i _ hg ?_)
  refine (part16_eq (hg := hg) _ _ ..).trans (glue i _ hg ?_)
  refine (part17_eq (hg := hg) _ _ ..).trans (glue i _ hg ?_)
  refine (part18_eq (hg := hg) _ _ _ ..).trans (glue i _ hg ?_)
  refine (part19_eq (hg := hg) _ _ ..).trans (glue i _ hg ?_)
  refine (part20_eq (hg := hg) _ _ ..).trans (glue i _ hg ?_)
  refine (part21_eq (hg := hg) _ _ _ ..).trans (glue i _ hg ?_)
  refine (part22_eq (hg := hg) _ _ ..).trans (glue i _ hg ?_)
  refine (part23_eq (hg := hg) _ _ ..).trans (glue i _ hg ?_)
  refine (part24_eq (hg := hg) _ _ ..).trans (glue i _ hg ?_)
  rfl

end

end Cert.Proof.Schedule

end
-- ==== Proof.Setup.lean ====
/-
  THE LAUNCH'S SET-UP: the program as the launch theorem sees it, the arrays' locations, and the slabs of the output.
  The output's rows divide among the two SparseCores' thirty-two tiles (512 consecutive rows each), and a tile's rows into
  its 48 slabs; each level of that division is disjoint and covers the one above.
-/
module

public import proofs.«01_k».proof.Proof.Windows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Shuffle

open Cert.KernelIdeal Cert.KernelIdeal.Gen Cert.Proof.Schedule

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch semaphores and the shared arrays. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the copies' counters -/

abbrev UH : Type := URounds (GSem nD τ sig) ℕ
abbrev UU : Type := UH × Counters

/-- The model the certificate reasons in. -/
abbrev MM (F : FTy → Type) : Type := MT nD τ sig (HIx 1) (Elt F) ℕ UU ℕ

abbrev EH : Emb UH (MM F) := embL

/-! ## The arrays -/

abbrev xLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v2
abbrev oLoc (d : Dev nD) : Loc nD τ sig := (SparseCore.T d).loc main_v3

/-- An array of `x`'s shape, of the elements of `F`. -/
abbrev XArr (F : FTy → Type) : Type := S16384x6x512.Idx → Elt F .f32

/-- What the kernel computes: column `k` of the output is the column of `x` the table's entry `k` names. -/
def pick {α : Type} (x : S16384x6x512.Idx → α) (pis : ℕ → BitVec 32) : S16384x6x512.Idx → α := fun j =>
  x fun a => match a with
    | 0 => j 0
    | 1 => ⟨(pis (j 1).val).toNat % 6, Nat.mod_lt _ (by decide)⟩
    | 2 => j 2

/-! ## The slabs of the output -/

abbrev cV (L : grid0.Coords) : Fin τ.nSC := (L 0).castLE hcore0
abbrev jV (L : grid0.Coords) : Fin τ.nSub := (L 1).castLE hsub0
/-- The tile at coordinates `L`. -/
abbrev thr (d : Dev nD) (L : grid0.Coords) : Thread nD τ := V d (cV L) (jV L)

/-- The elements of slab `t` of the tile at `L`. -/
abbrev slab (L : grid0.Coords) (t : ℕ) : Finset S16384x6x512.Idx := (oSl L t).view.set
/-- The elements of the tile `s` of SparseCore `c`. -/
def tileSet (c s : ℕ) : Finset S16384x6x512.Idx := Finset.univ.filter fun j => (j 0).val / 512 = s * 2 + c
/-- The elements of SparseCore `c`. -/
def coreSet (c : ℕ) : Finset S16384x6x512.Idx := Finset.univ.filter fun j => (j 0).val / 512 % 2 = c

/-- An element is in slab `t` when its row and its column are the slab's. -/
theorem mem_slab (L : grid0.Coords) (t : ℕ) (j : S16384x6x512.Idx) :
    j ∈ slab L t ↔ (((L 1).val * 2 + (L 0).val) * 512 + 64 * (t / 6 % 8) ≤ (j 0).val
        ∧ (j 0).val < ((L 1).val * 2 + (L 0).val) * 512 + 64 * (t / 6 % 8) + 64) ∧ (j 1).val = t % 6 := by
  have h2 : (j 2).val < 512 := (j 2).isLt
  unfold slab
  rw [show (oSl L t).view.set = (Rect.unit (s := S16384x6x512) (wOff L t) S64x1x512.size (wOff_inb L t)).set from
      View.set_slice_whole (main_v3_scv : Ref sig .scVector) _, Rect.mem_set_unit, Fin.forall_fin_succ, Fin.forall_fin_succ, Fin.forall_fin_succ]
  show ((rowB L (BitVec.ofNat 32 (64 * (t / 6 % 8)))).toNat ≤ (j 0).val ∧ (j 0).val < (rowB L (BitVec.ofNat 32 (64 * (t / 6 % 8)))).toNat + 64)
    ∧ (t % 6 ≤ (j 1).val ∧ (j 1).val < t % 6 + 1) ∧ (0 ≤ (j 2).val ∧ (j 2).val < 0 + 512) ∧ _ ↔ _
  rw [rowB_toNat L _ (by omega)]
  constructor
  · rintro ⟨h, h', -⟩; exact ⟨h, by omega⟩
  · rintro ⟨h, h'⟩; exact ⟨h, ⟨by omega, by omega⟩, ⟨by omega, by omega⟩, fun a => a.elim0⟩

theorem slab_disjoint (L : grid0.Coords) : ∀ t ∈ Finset.range 48, ∀ t' ∈ Finset.range 48, t ≠ t' → Disjoint (slab L t) (slab L t') := by
  intro t ht t' ht' h
  rw [Finset.mem_range] at ht ht'
  rw [Finset.disjoint_left]
  intro j hj hj'
  rw [mem_slab] at hj hj'
  omega

/-- A tile's slabs are its rows. -/
theorem slab_cover (L : grid0.Coords) : (Finset.range 48).biUnion (slab L) = tileSet (L 0).val (L 1).val := by
  ext j
  have h1 : (j 1).val < 6 := (j 1).isLt
  simp only [Finset.mem_biUnion, Finset.mem_range, mem_slab, tileSet, Finset.mem_filter, Finset.mem_univ, true_and]
  constructor
  · rintro ⟨t, ht, h⟩; omega
  · intro h
    refine ⟨(j 0).val % 512 / 64 * 6 + (j 1).val, ?_, ?_, ?_⟩ <;> omega

theorem tile_disjoint (c : ℕ) : ∀ s ∈ (Finset.univ : Finset (Fin 16)), ∀ s' ∈ (Finset.univ : Finset (Fin 16)), s ≠ s' →
    Disjoint (tileSet c s.val) (tileSet c s'.val) := by
  intro s _ s' _ h
  have h' : s.val ≠ s'.val := fun e => h (Fin.ext e)
  rw [Finset.disjoint_left]
  intro j hj hj'
  simp only [tileSet, Finset.mem_filter, Finset.mem_univ, true_and] at hj hj'
  omega

/-- A SparseCore's tiles are its rows. -/
theorem tile_cover (c : ℕ) (hc : c < 2) : (Finset.univ : Finset (Fin 16)).biUnion (fun s => tileSet c s.val) = coreSet c := by
  ext j
  have h0 : (j 0).val < 16384 := (j 0).isLt
  simp only [Finset.mem_biUnion, Finset.mem_univ, true_and, tileSet, coreSet, Finset.mem_filter]
  constructor
  · rintro ⟨s, h⟩; omega
  · intro h
    exact ⟨⟨(j 0).val / 512 / 2, by omega⟩, by show _ = (j 0).val / 512 / 2 * 2 + c; omega⟩

theorem core_disjoint : ∀ c ∈ (Finset.univ : Finset (Fin 2)), ∀ c' ∈ (Finset.univ : Finset (Fin 2)), c ≠ c' →
    Disjoint (coreSet c.val) (coreSet c'.val) := by
  intro c _ c' _ h
  have h' : c.val ≠ c'.val := fun e => h (Fin.ext e)
  rw [Finset.disjoint_left]
  intro j hj hj'
  simp only [coreSet, Finset.mem_filter, Finset.mem_univ, true_and] at hj hj'
  omega

/-- The two SparseCores' rows are all of the output. -/
theorem core_cover : (Finset.univ : Finset (Fin 2)).biUnion (fun c => coreSet c.val) = Finset.univ := by
  ext j
  simp only [Finset.mem_biUnion, Finset.mem_univ, true_and, coreSet, Finset.mem_filter, iff_true]
  exact ⟨⟨(j 0).val / 512 % 2, by omega⟩, rfl⟩

/-! ## Where a slab's elements lie -/

section

variable (L : grid0.Coords) (pis : ℕ → BitVec 32) (hg : ∀ t a, gOff L pis t a + S64x1x512.size a ≤ S16384x6x512.size a)

/-- The element of `x` that is element `k` of slab `t`. -/
def xEmb (t : ℕ) (k : S64x1x512.Idx) : S16384x6x512.Idx := (xSl L pis hg t).view.emb k
/-- The element of the output that is element `k` of slab `t`. -/
def oEmb (t : ℕ) (k : S64x1x512.Idx) : S16384x6x512.Idx := (oSl L t).view.emb k

/-- Slab `t` of `x` at an element is the output's value at the same element of slab `t` of the output. -/
theorem read_xSl (hp : ∀ k, (pis k).toNat < 6) (x : XArr F) (t : ℕ) (k : S64x1x512.Idx) :
    (xSl L pis hg t).view.read (Elt F) x k = pick x pis (oEmb L t k) := by
  have hp' := hp (t % 6)
  rw [show (xSl L pis hg t).view.read (Elt F) x k = x (xEmb L pis hg t k) from (View.read_apply _ _).trans (cast_eq _ _)]
  unfold pick
  have hk : (k 1).val = 0 := by have : (k 1).val < 1 := (k 1).isLt; omega
  have e1 : ((oEmb L t k) 1).val = t % 6 := by
    show t % 6 + 1 * (k 1).val = t % 6
    omega
  refine congrArg x (funext fun a => Fin.ext ?_)
  match a with
  | 0 => rfl
  | 1 =>
    show (pis (t % 6)).toNat + 1 * (k 1).val = (pis ((oEmb L t k) 1).val).toNat % 6
    rw [e1, Nat.mod_eq_of_lt hp']; omega
  | 2 => rfl

/-- Slab `t` of the output, written with slab `t` of `x`, holds the output's value. -/
theorem write_oSl (hp : ∀ k, (pis k).toNat < 6) (x f : XArr F) (t : ℕ) :
    ∀ j ∈ slab L t, (oSl L t).view.write (Elt F) f ((xSl L pis hg t).view.read (Elt F) x) Finset.univ j = pick x pis j := by
  intro j hj
  obtain ⟨k, -, rfl⟩ := Finset.mem_map.mp hj
  refine (View.write_emb_of_mem _ _ (Finset.mem_univ k)).trans ?_
  exact (cast_eq _ _).trans (read_xSl L pis hg hp x t k)

end

end Cert.Proof.Shuffle

end
-- ==== Proof.Step.lean ====
/-
  ONE COPY OR WAIT OF A TILE'S SCHEDULE. A fetch in flight into a buffer delivers the buffer holding its slab of `x`; a
  write-out in flight delivers its slab of the output at its final value, and the buffer back. Each of the four rules says
  what an action takes and what it leaves.
-/
module

public import proofs.«01_k».proof.Proof.Setup

@[expose] public section

noncomputable section

namespace Cert.Proof.Shuffle

open Cert.KernelIdeal Cert.KernelIdeal.Gen Cert.Proof.Schedule

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (L : grid0.Coords) (pis : ℕ → BitVec 32) (hg : ∀ t a, gOff L pis t a + S64x1x512.size a ≤ S16384x6x512.size a)
  (x : XArr F) (q : PosShare TreeShare)

/-- Buffer `p` of the tile, at contents `f`. -/
abbrev bufAt (p : Bool) (f : Buf (Elt F) ((bufM p).view.loc (thr d L))) : sProp 𝕄 := (bufM p).view.loc (thr d L) ↦[(bufM p).view.set]{fullShare} f
/-- Buffer `p` of the tile, at some contents. -/
abbrev bufAny (p : Bool) : sProp 𝕄 := iprop(∃ f, bufAt d L p f)
/-- Buffer `p` of the tile, holding slab `t` of `x`. -/
abbrev bufHas (p : Bool) (t : ℕ) : sProp 𝕄 :=
  iprop(∃ f, ⌜(bufM p).view.read (Elt F) f = (xSl L pis hg t).view.read (Elt F) x⌝ ∗ bufAt d L p f)
/-- The share of `x`, slab `t` of it. -/
abbrev xIn (t : ℕ) : sProp 𝕄 := (xSl L pis hg t).view.loc (thr d L) ↦[(xSl L pis hg t).view.set]{q} x
/-- The share of `x`, all but slab `t` of it. -/
abbrev xOut (t : ℕ) : sProp 𝕄 := (xSl L pis hg t).view.loc (thr d L) ↦[Finset.univ \ (xSl L pis hg t).view.set]{q} x
/-- The share of `x`, whole. -/
abbrev xAll : sProp 𝕄 := xLoc d ↦{q} x
/-- Slab `t` of the output, at contents `f`. -/
abbrev slabAt (t : ℕ) (f : Buf (Elt F) (oLoc d)) : sProp 𝕄 := oLoc d ↦[slab L t]{fullShare} f
/-- The fetch semaphore of buffer `p` at zero; the write-out semaphore of buffer `p` at zero. -/
abbrev gZero (p : Bool) : sProp 𝕄 := semVal (thr d L, .dma (gs p).sem) 0
abbrev wZero (p : Bool) : sProp 𝕄 := semVal (thr d L, .dma (ws p).sem) 0
/-- Slab `t`'s fetch into buffer `p`, in flight. -/
abbrev fetching (p : Bool) (t : ℕ) : sProp 𝕄 :=
  Transfers.Flight countersEmb (thr d L) (.dma (gs p).sem) (default : HIx 1) (bufM p).view.dmaCredit
    iprop(bufHas d L pis hg x p t ∗ xIn d L pis hg x q t)
/-- Slab `t`'s write-out from buffer `p`, in flight. -/
abbrev writing (p : Bool) (t : ℕ) : sProp 𝕄 :=
  Transfers.Flight countersEmb (thr d L) (.dma (ws p).sem) (default : HIx 1) (oSl L t).view.dmaCredit
    iprop(slabAt d L t (pick x pis) ∗ bufAny d L p)
/-- What the tile owes, with only its copies' waits recorded beyond `W`. -/
abbrev owing (O : CellTallies nD τ sig (HIx 1)) (W : Waits sig (HIx 1)) : sProp 𝕄 :=
  iprop(∃ W', ⌜∀ p ∈ W', p ∈ W ∨ p.2 = none⌝ ∗ owes (thr d L) O W')

/-- The share of `x` is slab `t` of it and the rest. -/
theorem xAll_split (t : ℕ) : (xAll d x q : sProp 𝕄) ⊣⊢ iprop(xIn d L pis hg x q t ∗ xOut d L pis hg x q t) :=
  pointsTo_split_subset (ℓ := xLoc d) (q := q) (f := x) (S := Finset.univ) (Finset.subset_univ _)

theorem slab_pos (t : ℕ) : 0 < (oSl L t).view.dmaCredit := by
  show 0 < Ref.dmaCredit (main_v3_scv : Ref sig .scVector) S64x1x512 .f32
  decide
theorem buf_pos (p : Bool) : 0 < (bufM p).view.dmaCredit := by cases p <;> decide

/-- A program of the tile runs to the post `Q`. -/
abbrev twp {β : Type} (p : TProg F L β) (Q : β → sProp 𝕄) : sProp 𝕄 := wp frame (wpE (defs₀ (F := F)) 𝒱₀ (thr d L) none) Set.univ p Q

/-- Issuing slab `t`'s fetch into buffer `p`. -/
theorem wp_G {α : Type} {Q : α → sProp 𝕄} (k : PUnit → TProg F L α) (p : Bool) (t : ℕ) :
    iprop(bufAny d L p ∗ gZero d L p ∗ xAll d x q)
      ⊢ iprop((iprop(fetching d L pis hg x q p t ∗ xOut d L pis hg x q t) -∗ twp d L (k ⟨⟩) Q)
          -∗ twp d L (act L pis hg (.G p t) >>= k) Q) := by
  iintro ⟨⟨%f, Hb⟩, Hz, Hx⟩ Hk
  ihave Hx' := (xAll_split d L pis hg x q t).1 $$ Hx
  icases Hx' with ⟨Hi, Ho⟩
  iapply (Transfers.wp_dmaLocal countersEmb 𝒱₀ (thr d L) none (src := xSl L pis hg t) (dst := bufM p) (q := q) (fs := x)
    (Sd := (bufM p).view.set) (fd := f) (default : HIx 1) (bufM p).view.dmaCredit rfl (buf_pos p) (Finset.Subset.refl _)) $$ [Hi Hb Hz]
  · isplitl [Hi]; · iexact Hi
    isplitl [Hb]; · iexact Hb
    iexact Hz
  iintro Hf
  iapply Hk
  isplitl [Hf]
  · iapply (Transfers.Flight_mono countersEmb (thr d L) (D' := iprop(bufHas d L pis hg x p t ∗ xIn d L pis hg x q t)) ?_) $$ Hf
    iintro ⟨Hb, Hi⟩
    isplitl [Hb]
    · iexists _; isplitr
      swap; · iexact Hb
      ipureintro
      exact View.read_write_univ _ _
    · iexact Hi
  · iexact Ho

/-- Awaiting slab `t`'s fetch into buffer `p`. -/
theorem wp_wG {α : Type} {Q : α → sProp 𝕄} (k : PUnit → TProg F L α) (p : Bool) (t : ℕ) (O : CellTallies nD τ sig (HIx 1)) (W : Waits sig (HIx 1)) :
    iprop(fetching d L pis hg x q p t ∗ xOut d L pis hg x q t ∗ owing d L O W ∗ Transfers.MayWaits (thr d L) (default : HIx 1) O)
      ⊢ iprop((iprop(bufHas d L pis hg x p t ∗ xAll d x q ∗ gZero d L p ∗ owing d L O W) -∗ twp d L (k ⟨⟩) Q)
          -∗ twp d L (act L pis hg (.wG p t) >>= k) Q) := by
  iintro ⟨Hf, Hxo, ⟨%W', %hW, HO⟩, Hmw⟩ Hk
  iapply (Transfers.wp_waitLocalO countersEmb 𝒱₀ (thr d L) none (srcw := xSl L pis hg t) (dstw := bufM p) (default : HIx 1) rfl) $$ [Hf HO Hmw]
  · isplitl [Hf]; · iexact Hf
    isplitl [HO]; · iexact HO
    iapply (Transfers.MayWaits.elim (SemLoc.dma (gs p).sem)) $$ Hmw
  iintro ⟨⟨Hb, Hi⟩, Hz, HO⟩
  iapply Hk
  isplitl [Hb]; · iexact Hb
  isplitl [Hi Hxo]
  · iapply (xAll_split d L pis hg x q t).2
    isplitl [Hi] <;> iassumption
  isplitl [Hz]; · iexact Hz
  iexists _; isplitr
  swap; · iexact HO
  ipureintro; intro e he
  rcases Finset.mem_insert.mp he with he | he
  · exact .inr (he ▸ rfl)
  · exact hW e he

/-- Issuing slab `t`'s write-out from buffer `p`, which holds slab `t` of `x`. -/
theorem wp_W {α : Type} {Q : α → sProp 𝕄} (k : PUnit → TProg F L α) (hp : ∀ k, (pis k).toNat < 6) (p : Bool) (t : ℕ) (f : Buf (Elt F) (oLoc d)) :
    iprop(bufHas d L pis hg x p t ∗ wZero d L p ∗ slabAt d L t f)
      ⊢ iprop((writing d L pis x p t -∗ twp d L (k ⟨⟩) Q)
          -∗ twp d L (act L pis hg (.W p t) >>= k) Q) := by
  iintro ⟨⟨%fb, %hfb, Hb⟩, Hz, Hs⟩ Hk
  iapply (Transfers.wp_dmaLocal countersEmb 𝒱₀ (thr d L) none (src := bufM p) (dst := oSl L t) (q := fullShare) (fs := fb)
    (Sd := slab L t) (fd := f) (default : HIx 1) (oSl L t).view.dmaCredit rfl (slab_pos L t) (Finset.Subset.refl _)) $$ [Hs Hb Hz]
  · isplitl [Hb]; · iexact Hb
    isplitl [Hs]; · iexact Hs
    iexact Hz
  iintro Hf
  iapply Hk
  iapply (Transfers.Flight_mono countersEmb (thr d L) (D' := iprop(slabAt d L t (pick x pis) ∗ bufAny d L p)) ?_) $$ Hf
  iintro ⟨Hs, Hb⟩
  isplitl [Hs]
  · have he : (slabAt d L t ((oSl L t).view.write (Elt F) f (ReadAs.same.apply ((bufM p).view.read (Elt F) fb)) Finset.univ) : sProp 𝕄)
        = slabAt d L t (pick x pis) := pointsTo_congr fun j hj => by
      rw [hfb]; exact write_oSl L pis hg hp x f t j hj
    iapply (Entails.of_eq he); iexact Hs
  · iexists _; iexact Hb

/-- Awaiting slab `t`'s write-out from buffer `p`. -/
theorem wp_wW {α : Type} {Q : α → sProp 𝕄} (k : PUnit → TProg F L α) (p : Bool) (t : ℕ) (O : CellTallies nD τ sig (HIx 1)) (W : Waits sig (HIx 1)) :
    iprop(writing d L pis x p t ∗ owing d L O W ∗ Transfers.MayWaits (thr d L) (default : HIx 1) O)
      ⊢ iprop((iprop(slabAt d L t (pick x pis) ∗ bufAny d L p ∗ wZero d L p ∗ owing d L O W) -∗ twp d L (k ⟨⟩) Q)
          -∗ twp d L (act L pis hg (.wW p t) >>= k) Q) := by
  iintro ⟨Hf, ⟨%W', %hW, HO⟩, Hmw⟩ Hk
  iapply (Transfers.wp_waitLocalO countersEmb 𝒱₀ (thr d L) none (srcw := bufM p) (dstw := oSl L t) (default : HIx 1) rfl) $$ [Hf HO Hmw]
  · isplitl [Hf]; · iexact Hf
    isplitl [HO]; · iexact HO
    iapply (Transfers.MayWaits.elim (SemLoc.dma (ws p).sem)) $$ Hmw
  iintro ⟨⟨Hs, Hb⟩, Hz, HO⟩
  iapply Hk
  isplitl [Hs]; · iexact Hs
  isplitl [Hb]; · iexact Hb
  isplitl [Hz]; · iexact Hz
  iexists _; isplitr
  swap; · iexact HO
  ipureintro; intro e he
  rcases Finset.mem_insert.mp he with he | he
  · exact .inr (he ▸ rfl)
  · exact hW e he

end

end Cert.Proof.Shuffle

end
-- ==== Proof.Rest.lean ====
/-
  A TILE'S SCHEDULE, from the first slab's arrival to the end. Between two steps one fetch and one write-out are in
  flight, in different buffers; the slabs written so far hold the output's value. `wp_rest` takes the output's slabs at
  any contents and returns them all at the output's value.
-/
module

public import proofs.«01_k».proof.Proof.Step

@[expose] public section

noncomputable section

namespace Cert.Proof.Shuffle

open Cert.KernelIdeal Cert.KernelIdeal.Gen Cert.Proof.Schedule

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (L : grid0.Coords) (pis : ℕ → BitVec 32) (hg : ∀ t a, gOff L pis t a + S64x1x512.size a ≤ S16384x6x512.size a)
  (x : XArr F) (q : PosShare TreeShare) (f : Buf (Elt F) (oLoc d)) (O : CellTallies nD τ sig (HIx 1)) (W : Waits sig (HIx 1))

/-- The first `t` slabs, at the output's value. -/
abbrev slabsDone (t : ℕ) : sProp 𝕄 := bigSep (Finset.range t) fun t => slabAt d L t (pick x pis)
/-- The slabs from `t`, as they were. -/
abbrev slabsLeft (t : ℕ) : sProp 𝕄 := bigSep (Finset.Ico t 48) fun t => slabAt d L t f

theorem slabsDone_succ (t : ℕ) : (slabsDone d L pis x (t + 1) : sProp 𝕄) = iprop(slabAt d L t (pick x pis) ∗ slabsDone d L pis x t) := by
  unfold slabsDone
  rw [Finset.range_add_one, SparseCore.bigSep_insert' Finset.notMem_range_self]

theorem slabsLeft_split (t : ℕ) (h : t < 48) : (slabsLeft d L f t : sProp 𝕄) = iprop(slabAt d L t f ∗ slabsLeft d L f (t + 1)) := by
  unfold slabsLeft
  rw [show Finset.Ico t 48 = insert t (Finset.Ico (t + 1) 48) from by ext u; simp only [Finset.mem_Ico, Finset.mem_insert]; omega,
    SparseCore.bigSep_insert' (by simp)]

/-- Before step `u + 1`: slab `u + 1` is being fetched into buffer `p`, slab `u` written out of the other. -/
def Inv (p : Bool) (u : ℕ) : sProp 𝕄 :=
  iprop(fetching d L pis hg x q p (u + 1) ∗ xOut d L pis hg x q (u + 1) ∗ writing d L pis x (!p) u ∗ gZero d L (!p) ∗ wZero d L p
    ∗ slabsDone d L pis x u ∗ slabsLeft d L f (u + 1) ∗ owing d L O W)

/-- One step. -/
theorem wp_step (hp : ∀ k, (pis k).toNat < 6) (p : Bool) (u : ℕ) (hu : u + 1 < 48) {α : Type} {Q : α → sProp 𝕄} (k : PUnit → TProg F L α) :
    iprop(Inv d L pis hg x q f O W p u ∗ Transfers.MayWaits (thr d L) (default : HIx 1) O)
      ⊢ iprop((Inv d L pis hg x q f O W (!p) (u + 1) -∗ twp d L (k ⟨⟩) Q)
          -∗ twp d L (runs L pis hg (step p (u + 1)) >>= k) Q) := by
  unfold Inv
  rw [Bool.not_not, slabsLeft_split d L f (u + 1) hu, slabsDone_succ]
  simp only [step, runs, bind_assoc, pure_bind, Nat.add_sub_cancel]
  iintro ⟨⟨Hf, Hxo, Hw, Hg', Hwz, Hd, ⟨Hs, Hl⟩, HO⟩, #Hmw⟩ Hk
  iapply (wp_wG d L pis hg x q _ p (u + 1) O W) $$ [Hf Hxo HO]
  · isplitl [Hf]; · iexact Hf
    isplitl [Hxo]; · iexact Hxo
    isplitl [HO]; · iexact HO
    iexact Hmw
  iintro ⟨Hb, Hx, Hg, HO⟩
  iapply (wp_W d L pis hg x _ hp p (u + 1) f) $$ [Hb Hwz Hs]
  · isplitl [Hb]; · iexact Hb
    isplitl [Hwz] <;> iassumption
  iintro Hw2
  iapply (wp_wW d L pis hg x _ (!p) u O W) $$ [Hw HO]
  · isplitl [Hw]; · iexact Hw
    isplitl [HO]; · iexact HO
    iexact Hmw
  iintro ⟨Hs, Hb, Hwz, HO⟩
  iapply (wp_G d L pis hg x q _ (!p) (u + 1 + 1)) $$ [Hb Hg' Hx]
  · isplitl [Hb]; · iexact Hb
    isplitl [Hg'] <;> iassumption
  iintro ⟨Hf, Hxo⟩
  iapply Hk
  isplitl [Hf]; · iexact Hf
  isplitl [Hxo]; · iexact Hxo
  isplitl [Hw2]; · iexact Hw2
  isplitl [Hg]; · iexact Hg
  isplitl [Hwz]; · iexact Hwz
  isplitl [Hs Hd]; · isplitl [Hs] <;> iassumption
  isplitl [Hl]; · iexact Hl
  iexact HO

/-- `n` steps. -/
theorem wp_steps (hp : ∀ k, (pis k).toNat < 6) {α : Type} {Q : α → sProp 𝕄} (k : PUnit → TProg F L α) (n : ℕ) :
    ∀ (p : Bool) (u : ℕ), u + n < 48 →
    (iprop(Inv d L pis hg x q f O W p u ∗ Transfers.MayWaits (thr d L) (default : HIx 1) O)
      ⊢ iprop((Inv d L pis hg x q f O W (not^[n] p) (u + n) -∗ twp d L (k ⟨⟩) Q)
          -∗ twp d L (runs L pis hg (steps p (u + 1) n) >>= k) Q)) := by
  induction n with
  | zero =>
    intro p u _
    iintro ⟨HI, -⟩ Hk
    iapply Hk; iexact HI
  | succ n ih =>
    intro p u h
    have ih' := ih (!p) (u + 1) (by omega)
    rw [show u + 1 + n = u + (n + 1) by omega] at ih'
    simp only [steps, runs_append, bind_assoc]
    iintro ⟨HI, #Hmw⟩ Hk
    iapply (wp_step d L pis hg x q f O W hp p u (by omega)) $$ [HI]
    · isplitl [HI]; · iexact HI
      iexact Hmw
    iintro HI
    iapply ih' $$ [HI]
    · isplitl [HI]; · iexact HI
      iexact Hmw
    iexact Hk

/-- The rest of a tile's body, from the first slab's arrival: the output's slabs at the output's value, the buffers, the
    share of `x` and the semaphores back. -/
theorem wp_rest (hp : ∀ k, (pis k).toNat < 6) {α : Type} {Q : α → sProp 𝕄} (k : PUnit → TProg F L α) :
    iprop((bufHas d L pis hg x false 0 ∗ bufAny d L true ∗ xAll d x q ∗ (gZero d L false ∗ gZero d L true ∗ wZero d L false ∗ wZero d L true)
        ∗ slabsLeft d L f 0 ∗ owing d L O W) ∗ Transfers.MayWaits (thr d L) (default : HIx 1) O)
      ⊢ iprop((iprop(bufAny d L false ∗ bufAny d L true ∗ xAll d x q ∗ (gZero d L false ∗ gZero d L true ∗ wZero d L false ∗ wZero d L true)
            ∗ slabsDone d L pis x 48 ∗ owing d L O W) -∗ twp d L (k ⟨⟩) Q)
          -∗ twp d L (runs L pis hg (lead ++ (steps true 1 46 ++ trail)) >>= k) Q) := by
  simp only [runs_append, bind_assoc]
  rw [slabsLeft_split d L f 0 (by decide)]
  simp only [lead, runs, bind_assoc, pure_bind]
  iintro ⟨⟨Hb0, Hb1, Hx, ⟨Hg0, Hg1, Hw0, Hw1⟩, ⟨Hs, Hl⟩, HO⟩, #Hmw⟩ Hk
  iapply (wp_W d L pis hg x _ hp false 0 f) $$ [Hb0 Hw0 Hs]
  · isplitl [Hb0]; · iexact Hb0
    isplitl [Hw0] <;> iassumption
  iintro Hw
  iapply (wp_G d L pis hg x q _ true 1) $$ [Hb1 Hg1 Hx]
  · isplitl [Hb1]; · iexact Hb1
    isplitl [Hg1] <;> iassumption
  iintro ⟨Hf, Hxo⟩
  iapply (wp_steps d L pis hg x q f O W hp _ 46 true 0 (by decide)) $$ [Hw Hg0 Hw1 Hl HO Hf Hxo]
  · isplitl
    · unfold Inv
      isplitl [Hf]; · iexact Hf
      isplitl [Hxo]; · iexact Hxo
      isplitl [Hw]; · iexact Hw
      isplitl [Hg0]; · iexact Hg0
      isplitl [Hw1]; · iexact Hw1
      isplitr; · unfold slabsDone; rw [Finset.range_zero, BI.bigSep_empty]; iempintro
      isplitl [Hl]; · iexact Hl
      iexact HO
    · iexact Hmw
  rw [show (not^[46] true) = true from rfl]
  unfold Inv
  rw [slabsLeft_split d L f (0 + 46 + 1) (by decide), slabsDone_succ, slabsDone_succ]
  simp only [trail, runs, bind_assoc, pure_bind]
  iintro ⟨Hf, Hxo, Hw, Hg0, Hw1, Hd, ⟨Hs, -⟩, HO⟩
  iapply (wp_wG d L pis hg x q _ true 47 O W) $$ [Hf Hxo HO]
  · isplitl [Hf]; · iexact Hf
    isplitl [Hxo]; · iexact Hxo
    isplitl [HO]; · iexact HO
    iexact Hmw
  iintro ⟨Hb, Hx, Hg1, HO⟩
  iapply (wp_W d L pis hg x _ hp true 47 f) $$ [Hb Hw1 Hs]
  · isplitl [Hb]; · iexact Hb
    isplitl [Hw1] <;> iassumption
  iintro Hw2
  iapply (wp_wW d L pis hg x _ false 46 O W) $$ [Hw HO]
  · isplitl [Hw]; · iexact Hw
    isplitl [HO]; · iexact HO
    iexact Hmw
  iintro ⟨Hs, Hb0, Hw0, HO⟩
  iapply (wp_wW d L pis hg x _ true 47 O W) $$ [Hw2 HO]
  · isplitl [Hw2]; · iexact Hw2
    isplitl [HO]; · iexact HO
    iexact Hmw
  iintro ⟨Hs2, Hb1, Hw1, HO⟩
  iapply Hk
  isplitl [Hb0]; · iexact Hb0
  isplitl [Hb1]; · iexact Hb1
  isplitl [Hx]; · iexact Hx
  isplitl [Hg0 Hg1 Hw0 Hw1]
  · isplitl [Hg0]; · iexact Hg0
    isplitl [Hg1]; · iexact Hg1
    isplitl [Hw0] <;> iassumption
  isplitl [Hs Hs2 Hd]
  · isplitl [Hs2]; · iexact Hs2
    isplitl [Hs]; · iexact Hs
    iexact Hd
  iexact HO

end

end Cert.Proof.Shuffle

end
-- ==== Proof.Values.lean ====
/-
  THE TABLE'S ENTRIES. The program pads the six column numbers with zeros to sixteen lanes; a tile reads entry `k` out of
  the padded table by keeping lane `k` alone and taking the largest lane. For entries that are no larger than half the
  words' range this is the entry itself. With every entry below six, the offsets of all the fetches are in bounds.
-/
module

public import proofs.«01_k».proof.Proof.Setup

@[expose] public section

noncomputable section

namespace Cert.Proof.Shuffle

open Cert.KernelIdeal Cert.KernelIdeal.Gen Cert.Proof.Schedule

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Lane `k` of sixteen; entry `k` of six. -/
def lane (k : Fin 16) : S16.Idx := fun a => match a with | 0 => k
def six (k : Fin 6) : S6.Idx := fun a => match a with | 0 => k

/-! ## One entry read out of the table -/

/-- A running maximum that has met the larger of two words keeps it. -/
theorem fold_hi {A M : BitVec 32} (hAM : IntOp.maxui A M = A) (k : Fin 16) (l : List (Fin 16)) :
    l.foldl (fun r j => IntOp.maxui r (if j = k then A else M)) A = A := by
  induction l with
  | nil => rfl
  | cons j l ih =>
    rw [List.foldl_cons]
    have : IntOp.maxui A (if j = k then A else M) = A := by
      split
      · simp [IntOp.maxui]
      · exact hAM
    rw [this]; exact ih

/-- A running maximum from the smaller of two words, over lanes one of which holds the larger, ends at the larger. -/
theorem fold_lo {A M : BitVec 32} (hAM : IntOp.maxui A M = A) (hMA : IntOp.maxui M A = A) (k : Fin 16) (l : List (Fin 16)) (hk : k ∈ l) :
    l.foldl (fun r j => IntOp.maxui r (if j = k then A else M)) M = A := by
  induction l with
  | nil => cases hk
  | cons j l ih =>
    rw [List.foldl_cons]
    by_cases h : j = k
    · rw [if_pos h, hMA]; exact fold_hi hAM k l
    · rw [if_neg h, show IntOp.maxui M M = M by simp [IntOp.maxui]]
      exact ih ((List.mem_cons.mp hk).resolve_left fun e => h e.symm)

/-- The running maximum's last lane, of a vector that holds `A` in lane `k` and a smaller word everywhere else. -/
theorem scan_last {A M : BitVec 32} (hAM : IntOp.maxui A M = A) (hMA : IntOp.maxui M A = A) (k : Fin 16) (u : IVec S16 32)
    (hu : ∀ j : Fin 16, u (lane j) = if j = k then A else M) : scan .max u (lane 15) = A := by
  have hl : ∀ j : Fin 16, u (Shape.ofLane j) = if j = k then A else M := fun j => by
    rw [← hu j]; congr 1; funext a; match a with | 0 => rfl
  suffices he : ∀ g : Fin 16 → BitVec 32, (g = fun j => if j = k then A else M) →
      ((List.finRange 16).filter fun j => decide (0 < j.val ∧ j.val ≤ 15)).foldl (fun r j => IntOp.maxui r (g j)) (g 0) = A by
    exact he (fun j => u (Shape.ofLane j)) (funext hl)
  intro g hg
  have hm : k.val ≠ 0 → k ∈ (List.finRange 16).filter fun j => decide (0 < j.val ∧ j.val ≤ 15) := fun h =>
    List.mem_filter.mpr ⟨List.mem_finRange k, decide_eq_true ⟨by omega, by omega⟩⟩
  generalize ((List.finRange 16).filter fun j => decide (0 < j.val ∧ j.val ≤ 15)) = l at hm ⊢
  by_cases h : k.val = 0
  · rw [show g 0 = A by rw [hg]; exact if_pos (Fin.ext h.symm), hg]; exact fold_hi hAM k l
  · rw [show g 0 = M by rw [hg]; exact if_neg fun e => h (congrArg Fin.val e.symm), hg]; exact fold_lo hAM hMA k l (hm h)

/-- A comparison for equality that answers yes compares equal words. -/
theorem cmpi_eq {x y : BitVec 32} (h : IntOp.cmpi .eq x y = 1#1) : x = y := by
  simp only [IntOp.cmpi] at h
  by_contra hne
  rw [beq_false_of_ne hne] at h
  exact absurd h (by decide)

/-- Lane `k` kept, the sign bits flipped, the running maximum's last lane, its sign bit flipped: the lane's word, when
    that is non-negative. -/
theorem lane_max (v : IVec S16 32) (k : Fin 16) (hv : (v (lane k)).toNat < 2147483648) :
    extractAt ![15] (xori (scan .max (xori (select (cmpi .eq (iota .scVector S16 32 [0] iota_S16_d0_w32_scVector) (broadcast S16 (BitVec.ofNat 32 k.val))) v
      (broadcast S16 0#32)) (broadcast S16 2147483648#32))) (broadcast S16 2147483648#32)) inpos_S16_p15 = v (lane k) := by
  generalize hw : v (lane k) = w at hv
  have hm : (w ^^^ 2147483648#32).msb = true := by
    rw [BitVec.msb_xor, show (2147483648#32).msb = true from by decide, BitVec.msb_eq_decide, Bool.xor_true]
    simp only [Nat.add_one_sub_one, Nat.reducePow, Bool.not_eq_true', decide_eq_false_iff_not]; omega
  rw [BitVec.msb_eq_decide, decide_eq_true_eq] at hm
  simp only [Nat.add_one_sub_one, Nat.reducePow] at hm
  have hMt : (2147483648#32).toNat = 2147483648 := rfl
  have hMA : IntOp.maxui 2147483648#32 (w ^^^ 2147483648#32) = w ^^^ 2147483648#32 := by
    unfold IntOp.maxui
    rw [if_neg]
    intro h; rw [BitVec.ult_eq_decide, decide_eq_true_eq, hMt] at h; omega
  have hAM : IntOp.maxui (w ^^^ 2147483648#32) 2147483648#32 = w ^^^ 2147483648#32 := by
    unfold IntOp.maxui
    split
    · rfl
    · rename_i h
      rw [BitVec.ult_eq_decide, decide_eq_true_eq, hMt] at h
      apply BitVec.eq_of_toNat_eq; rw [hMt]; omega
  have hs := scan_last hAM hMA k (xori (select (cmpi .eq (iota .scVector S16 32 [0] iota_S16_d0_w32_scVector) (broadcast S16 (BitVec.ofNat 32 k.val))) v
      (broadcast S16 0#32)) (broadcast S16 2147483648#32)) (by
    intro j
    show (if IntOp.cmpi .eq (BitVec.ofNat 32 (0 * 16 + j.val)) (BitVec.ofNat 32 k.val) = 1#1 then v (lane j) else 0#32) ^^^ 2147483648#32 = _
    by_cases h : j = k
    · subst h
      rw [if_pos (by simp [IntOp.cmpi]), if_pos rfl, hw]
    · have : (BitVec.ofNat 32 (0 * 16 + j.val)) ≠ BitVec.ofNat 32 k.val := fun e => h (Fin.ext (by
        have := congrArg BitVec.toNat e; simp only [BitVec.toNat_ofNat] at this; omega))
      rw [if_neg h, if_neg (fun e => this (cmpi_eq e)), BitVec.zero_xor])
  show scan .max _ _ ^^^ 2147483648#32 = w
  rw [show (fun a : Fin 1 => (⟨(![15] : Fin 1 → ℕ) a, inpos_S16_p15 a⟩ : Fin (S16.size a))) = lane 15 from by funext a; match a with | 0 => rfl]
  rw [hs, BitVec.xor_assoc, BitVec.xor_self, BitVec.xor_zero]

/-! ## The table -/

/-- The table the program builds from the six column numbers. -/
def tab (v : IVec S6 32) : IVec S16 32 :=
  Host.scatter scatter_S16_S1_S6_0_n_0_0 (fun _ b => b) (broadcastInDim S16 ![] bcast_S_S16 (constantI S_ 32 0#32))
    (broadcastInDim S1 ![] bcast_S_S1 (constantI S_ 32 0#32)) v

/-- Writing each update at an element of its own: an element holds the update that goes there. -/
theorem scatter_set {α : Type} {s si u : Shape} {w : ℕ} (sd : ScatterDims s si u) (x : s.Idx → α) (idx : IVec si w) (upd : u.Idx → α)
    (g : u.Idx → s.Idx) (hg : ∀ k, sd.resultIdx? k idx = some (g k)) (hinj : Function.Injective g) (k : u.Idx) :
    Host.scatter sd (fun _ b => b) x idx upd (g k) = upd k := by
  unfold Host.scatter
  simp only [hg]
  have key : ∀ (l : List (Fin u.numel)) (r : s.Idx → α),
      l.foldl (fun r n => fun i' => if i' = g (u.rowMajor.symm n) then upd (u.rowMajor.symm n) else r i') r (g k)
        = if u.rowMajor k ∈ l then upd k else r (g k) := by
    intro l
    induction l with
    | nil => intro r; rw [if_neg List.not_mem_nil]; rfl
    | cons n l ih =>
      intro r
      rw [List.foldl_cons, ih]
      by_cases h : u.rowMajor k ∈ l
      · rw [if_pos h, if_pos (List.mem_cons_of_mem _ h)]
      · rw [if_neg h]
        by_cases hn : g k = g (u.rowMajor.symm n)
        · have e : k = u.rowMajor.symm n := hinj hn
          rw [if_pos hn, ← e, if_pos (by rw [e, Equiv.apply_symm_apply]; exact List.mem_cons_self)]
        · rw [if_neg hn, if_neg]
          intro hm
          rcases List.mem_cons.mp hm with e | e
          · exact hn (by rw [← e, Equiv.symm_apply_apply])
          · exact h e
  rw [key, if_pos (List.mem_finRange _)]

/-- Column number `n` goes to entry `n`. -/
theorem tab_at : ∀ n : Fin 6, (scatter_S16_S1_S6_0_n_0_0).resultIdx? (six n)
    (broadcastInDim S1 ![] bcast_S_S1 (constantI S_ 32 0#32)) = some (lane (n.castLE (by decide))) := by
  decide +kernel

/-- Its entry `k` is the column number `k`. -/
theorem tab_lane (v : IVec S6 32) (k : Fin 6) : tab v (lane (k.castLE (by decide))) = v (six k) := by
  have h6 : ∀ k : S6.Idx, k = six (k 0) := fun k => funext fun a => match a with | 0 => rfl
  exact scatter_set scatter_S16_S1_S6_0_n_0_0 _ _ v (fun k => lane ((k 0 : Fin 6).castLE (by decide)))
    (fun k => by rw [h6 k]; exact tab_at (k 0))
    (fun a b h => by
      rw [h6 a, h6 b]
      have : (a 0 : Fin 6).castLE (by decide : 6 ≤ 16) = (b 0 : Fin 6).castLE (by decide : 6 ≤ 16) := congrFun h 0
      exact congrArg six (Fin.castLE_injective _ this)) (six k)

/-! ## The six entries -/

/-- The six column numbers. -/
def cols (v : IVec S6 32) : ℕ → BitVec 32 := pisOf (v (six 0)) (v (six 1)) (v (six 2)) (v (six 3)) (v (six 4)) (v (six 5))

theorem cols_lt (v : IVec S6 32) (hv : ∀ k, (v (six k)).toNat < 6) : ∀ k, (cols v k).toNat < 6 := fun k =>
  match k with
  | 0 => hv 0
  | 1 => hv 1
  | 2 => hv 2
  | 3 => hv 3
  | 4 => hv 4
  | _ + 5 => hv 5

theorem lane_lt (v : IVec S6 32) (hv : ∀ k, (v (six k)).toNat < 6) (k : Fin 6) : (tab v (lane (k.castLE (by decide)))).toNat < 2147483648 := by
  rw [tab_lane]; have := hv k; omega

section

variable (v : IVec S6 32)

/-! Entry `k`, read out of the table, is column number `k`. -/

theorem ext0 (hv : ∀ k, (v (six k)).toNat < 6) : extractAt ![15] (k0_pay1 (F := F) (tab v)) inpos_S16_p15 = v (six 0) :=
  (lane_max (tab v) 0 (lane_lt v hv 0)).trans (tab_lane v 0)
theorem ext1 (hv : ∀ k, (v (six k)).toNat < 6) : extractAt ![15] (k0_pay2 (F := F) (tab v)) inpos_S16_p15 = v (six 1) :=
  (lane_max (tab v) 1 (lane_lt v hv 1)).trans (tab_lane v 1)
theorem ext2 (hv : ∀ k, (v (six k)).toNat < 6) : extractAt ![15] (k0_pay3 (F := F) (tab v)) inpos_S16_p15 = v (six 2) :=
  (lane_max (tab v) 2 (lane_lt v hv 2)).trans (tab_lane v 2)
theorem ext3 (hv : ∀ k, (v (six k)).toNat < 6) : extractAt ![15] (k0_pay5 (F := F) (tab v) k0_pay4) inpos_S16_p15 = v (six 3) :=
  (lane_max (tab v) 3 (lane_lt v hv 3)).trans (tab_lane v 3)
theorem ext4 (hv : ∀ k, (v (six k)).toNat < 6) : extractAt ![15] (k0_pay6 (F := F) (tab v) (iota .scVector S16 32 [0] iota_S16_d0_w32_scVector)) inpos_S16_p15 = v (six 4) :=
  (lane_max (tab v) 4 (lane_lt v hv 4)).trans (tab_lane v 4)
theorem ext5 (hv : ∀ k, (v (six k)).toNat < 6) : extractAt ![15] (k0_pay7 (F := F) (tab v) (iota .scVector S16 32 [0] iota_S16_d0_w32_scVector)) inpos_S16_p15 = v (six 5) :=
  (lane_max (tab v) 5 (lane_lt v hv 5)).trans (tab_lane v 5)

end

/-! ## The fetches are in bounds -/

section

variable (L : grid0.Coords)

/-- Sixty-four rows from row `k` of the tile's 512, one column below six, all 512 lanes. -/
theorem inb (k : ℕ) (hk : k < 449) (w : BitVec 32) (hw : w.toNat < 6) :
    ∀ a, (![(rowB L (BitVec.ofNat 32 k)).toNat, w.toNat, 0] : Fin 3 → ℕ) a + S64x1x512.size a ≤ S16384x6x512.size a := by
  have h0 : (L 0).val < 2 := (L 0).isLt
  have h1 : (L 1).val < 16 := (L 1).isLt
  intro a
  match a with
  | 0 => show (rowB L _).toNat + 64 ≤ 16384; rw [rowB_toNat L _ (by omega)]; omega
  | 1 => show w.toNat + 1 ≤ 6; omega
  | 2 => show 0 + 512 ≤ 512; decide

theorem chk1 (w : BitVec 32) (hw : w.toNat < 6) : k0_chk1 L w :=
  ⟨inb L 0 (by decide) w hw, fun r => inb L (64 + 64 * r.val) (by omega) w hw⟩
theorem chk2 (w : BitVec 32) (hw : w.toNat < 6) : k0_chk2 L w :=
  ⟨inb L 0 (by decide) w hw, fun r => inb L (64 + 64 * r.val) (by omega) w hw⟩
theorem chk3 (w : BitVec 32) (hw : w.toNat < 6) : k0_chk3 L w :=
  ⟨inb L 0 (by decide) w hw, fun r => inb L (64 + 64 * r.val) (by omega) w hw⟩
theorem chk4 (w : BitVec 32) (hw : w.toNat < 6) : k0_chk4 L w :=
  ⟨inb L 0 (by decide) w hw, fun r => inb L (64 + 64 * r.val) (by omega) w hw⟩
theorem chk5 (w : BitVec 32) (hw : w.toNat < 6) : k0_chk5 L w :=
  ⟨inb L 0 (by decide) w hw, fun r => inb L (64 + 64 * r.val) (by omega) w hw⟩
theorem chk6 (w : BitVec 32) (hw : w.toNat < 6) : k0_chk6 L w :=
  fun r => inb L (64 * r.val) (by omega) w hw

end

end Cert.Proof.Shuffle

end
-- ==== Proof.Body.lean ====
/-
  A TILE'S BODY. The tile copies the table into its own memory, reads the six column numbers out of it, and runs its
  schedule; its rows of the output end at the output's value, everything else it was handed comes back as it was.
-/
module

public import proofs.«01_k».proof.Proof.Rest
public import proofs.«01_k».proof.Proof.Values

@[expose] public section

noncomputable section

namespace Cert.Proof.Shuffle

open Cert.KernelIdeal Cert.KernelIdeal.Gen Cert.Proof.Schedule

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (d : Dev nD) (L : grid0.Coords)

/-! ## The tile's own buffers and semaphores -/

abbrev gA : GSem nD τ sig := (thr d L, .dma (gs false).sem)
abbrev gB : GSem nD τ sig := (thr d L, .dma (gs true).sem)
abbrev wA : GSem nD τ sig := (thr d L, .dma (ws false).sem)
abbrev wB : GSem nD τ sig := (thr d L, .dma (ws true).sem)
abbrev cT : GSem nD τ sig := (thr d L, .dma cc0_scoped0.sem)

/-- The tile's five semaphores are among its own. -/
theorem ownSems0_tile :
    (ownSems0 (thr d L) : sProp 𝕄)
      = iprop(semVal (gA d L) 0 ∗ semVal (gB d L) 0 ∗ semVal (wA d L) 0 ∗ semVal (wB d L) 0 ∗ semVal (cT d L) 0
          ∗ bigSep ((((((ownCells (thr d L)).erase (gA d L)).erase (gB d L)).erase (wA d L)).erase (wB d L)).erase (cT d L)) fun g => semVal g 0) := by
  have hm : ∀ s : DmaSem sig, (SemLoc.dma s : SemLoc sig).isScoped .scVector = true → ((thr d L, .dma s) : GSem nD τ sig) ∈ ownCells (thr d L) :=
    fun s hs => mem_ownCells.mpr ⟨rfl, hs⟩
  have hne : ∀ s s' : DmaSem sig, s ≠ s' → ((thr d L, .dma s) : GSem nD τ sig) ≠ (thr d L, .dma s') :=
    fun s s' h e => h (SemLoc.dma.inj (Prod.mk.inj e).2)
  unfold SparseCore.Cfg.ownSems0
  rw [SparseCore.bigSep_erase' (hm (gs false).sem (by decide)),
    SparseCore.bigSep_erase' (Finset.mem_erase.mpr ⟨hne (gs true).sem (gs false).sem (by decide), hm (gs true).sem (by decide)⟩),
    SparseCore.bigSep_erase' (Finset.mem_erase.mpr ⟨hne (ws false).sem (gs true).sem (by decide), Finset.mem_erase.mpr ⟨hne (ws false).sem (gs false).sem (by decide), hm (ws false).sem (by decide)⟩⟩),
    SparseCore.bigSep_erase' (Finset.mem_erase.mpr ⟨hne (ws true).sem (ws false).sem (by decide), Finset.mem_erase.mpr ⟨hne (ws true).sem (gs true).sem (by decide), Finset.mem_erase.mpr ⟨hne (ws true).sem (gs false).sem (by decide), hm (ws true).sem (by decide)⟩⟩⟩),
    SparseCore.bigSep_erase' (Finset.mem_erase.mpr ⟨hne cc0_scoped0.sem (ws true).sem (by decide), Finset.mem_erase.mpr ⟨hne cc0_scoped0.sem (ws false).sem (by decide), Finset.mem_erase.mpr ⟨hne cc0_scoped0.sem (gs true).sem (by decide), Finset.mem_erase.mpr ⟨hne cc0_scoped0.sem (gs false).sem (by decide), hm cc0_scoped0.sem (by decide)⟩⟩⟩⟩)]

/-- The tile's copy of the table and its two buffers are among its own, at some contents. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne cc0_scratch1 cc0_scratch0 (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne cc0_scratch2 cc0_scratch1 (by decide), Finset.mem_erase.mpr ⟨hne cc0_scratch2 cc0_scratch0 (by decide),
      SparseCore.Cfg.mem_ownRefs_of_owner (p := Proc.scVector (cV L) (jV L)) (b := (Proc.scVector (cV L) (jV L)).devRef cc0_scratch2) rfl⟩⟩)]

/-- A buffer's own elements are the buffer. -/
theorem pts_buf (p : Bool) (f : Buf (Elt F) ((bufM p).view.loc (thr d L))) :
    (bufAt d L p f : sProp 𝕄) = ((bufM p).view.loc (thr d L) ↦{fullShare} f) := by
  unfold bufAt
  rw [show (bufM p).view.set = Finset.univ from by cases p <;> exact View.set_whole _]

/-! ## Reading the table -/

section

variable (v : IVec S6 32) (hv : ∀ k, (v (six k)).toNat < 6) (qt : PosShare TreeShare) (O : CellTallies nD τ sig (HIx 1)) (W : Waits sig (HIx 1))

/-- The table's first part: the copy of the table, its wait, the load and the first three column numbers. -/
theorem wp_part1 (hv : ∀ k, (v (six k)).toNat < 6) {α : Type} {Q : α → sProp 𝕄} (R : sProp 𝕄) (k : _ → TProg F L α)
    (hk : ∀ v2 h1 h2 h3, iprop((tLoc d ↦{qt} tab v) ∗ (∃ f, (thr d L).loc cc0_scratch0 ↦{fullShare} f) ∗ semVal (cT d L) 0 ∗ owing d L O W ∗ R)
      ⊢ twp d L (k ⟨v2, tab v, iota .scVector S16 32 [0] iota_S16_d0_w32_scVector, extractAt ![15] (k0_pay1 (F := F) (tab v)) inpos_S16_p15, h1,
          extractAt ![15] (k0_pay2 (F := F) (tab v)) inpos_S16_p15, h2, extractAt ![15] (k0_pay3 (F := F) (tab v)) inpos_S16_p15, h3, k0_pay4⟩) Q) :
    iprop((tLoc d ↦{qt} tab v) ∗ (∃ f, (thr d L).loc cc0_scratch0 ↦{fullShare} f) ∗ semVal (cT d L) 0 ∗ owing d L O W ∗ R
        ∗ Transfers.MayWaits (thr d L) (default : HIx 1) O)
      ⊢ twp d L (k0_part1 (F := F) L xV (Memref.isWhole_whole _) tV (Memref.isWhole_whole _) oV (Memref.isWhole_whole _) sV (Memref.isWhole_whole _)
          aV (Memref.isWhole_whole _) bV (Memref.isWhole_whole _) cc0_scratch3 cc0_scratch4 cc0_scratch5 cc0_scratch6 cc0_scoped0 >>= k) Q := by
  rw [k0_part1_eq_skeleton]; unfold k0_part1_skel
  simp only [bind_assoc, pure_bind]
  iintro ⟨Ht, ⟨%f, Hs⟩, Hz, ⟨%W', %hW, HO⟩, HR, #Hmw⟩
  ihave Ht' := (Entails.of_eq (show (tLoc d ↦{qt} tab v : sProp 𝕄) = (tV).view.loc (thr d L) ↦[(tV).view.set]{qt} tab v by
    rw [show (tV).view.set = Finset.univ from View.set_whole _])) $$ Ht
  ihave Hs' := (Entails.of_eq (show ((thr d L).loc cc0_scratch0 ↦{fullShare} f : sProp 𝕄) = (sV).view.loc (thr d L) ↦[(sV).view.set]{fullShare} f by
    rw [show (sV).view.set = Finset.univ from View.set_whole _])) $$ Hs
  iapply (Transfers.wp_dmaLocal countersEmb 𝒱₀ (thr d L) none (src := tV) (dst := sV) (q := qt) (fs := tab v)
    (Sd := (sV).view.set) (fd := f) (default : HIx 1) (sV).view.dmaCredit rfl (by decide) (Finset.Subset.refl _)) $$ [Ht' Hs' Hz]
  · isplitl [Ht']; · iexact Ht'
    isplitl [Hs']; · iexact Hs'
    iexact Hz
  iintro Hf
  iapply (Transfers.wp_waitLocalO countersEmb 𝒱₀ (thr d L) none (srcw := tV) (dstw := sV) (default : HIx 1) rfl) $$ [Hf HO]
  · isplitl [Hf]; · iexact Hf
    isplitl [HO]; · iexact HO
    iapply (Transfers.MayWaits.elim (SemLoc.dma cc0_scoped0.sem)) $$ Hmw
  iintro ⟨⟨Hs, Ht⟩, Hz, HO⟩
  ihave Hs' := (Entails.of_eq (show ((sV).view.loc (thr d L) ↦[(sV).view.set]{fullShare} (sV).view.write (Elt F) f (ReadAs.same.apply ((tV).view.read (Elt F) (tab v))) Finset.univ : sProp 𝕄)
      = (sV).view.loc (thr d L) ↦{fullShare} tab v by
    rw [show (sV).view.set = Finset.univ from View.set_whole _];
    rw [View.write_whole_univ]; rfl)) $$ Hs
  iapply (wp_load 𝒱₀ (thr d L) none Set.univ (m := sV) (S := Finset.univ) (Finset.subset_univ _)) $$ Hs'
  iintro Hs
  have hr : (sV).view.readAt (Elt F) (Rect.unit (s := S16) ![0] S16.size inb_S16_S16_0).toLoadRect (tab v) = tab v :=
    funext fun j => congrArg (tab v) (funext fun a => match a with
      | 0 => Fin.ext (show 0 + 1 * (j 0).val = (j 0).val by omega))
  rw [hr]
  iapply (wp_assume 𝒱₀ (thr d L) none Set.univ (chk1 L _ (by rw [ext0 v hv]; exact hv 0)))
  iapply (wp_assume 𝒱₀ (thr d L) none Set.univ (chk2 L _ (by rw [ext1 v hv]; exact hv 1)))
  iapply (wp_assume 𝒱₀ (thr d L) none Set.univ (chk3 L _ (by rw [ext2 v hv]; exact hv 2)))
  ihave Hs' := (Entails.of_eq (show ((sV).view.loc (thr d L) ↦{fullShare} tab v : sProp 𝕄) = (thr d L).loc cc0_scratch0 ↦{fullShare} tab v from rfl)) $$ Hs
  ihave Ht' := (Entails.of_eq (show ((tV).view.loc (thr d L) ↦[(tV).view.set]{qt} tab v : sProp 𝕄) = tLoc d ↦{qt} tab v by
    rw [show (tV).view.set = Finset.univ from View.set_whole _])) $$ Ht
  iapply (hk _ _ _ _)
  isplitl [Ht']; · iexact Ht'
  isplitl [Hs']; · iexists _; iexact Hs'
  isplitl [Hz]; · iexact Hz
  isplitr [HR]
  swap; · iexact HR
  iexists _; isplitr
  swap; · iexact HO
  ipureintro; intro e he
  rcases Finset.mem_insert.mp he with he | he
  · exact .inr (he ▸ rfl)
  · exact hW e he

variable (x : XArr F) (q : PosShare TreeShare) (f : Buf (Elt F) (oLoc d))

/-- The six column numbers, as the body reads them, and the bounds of all the fetches. -/
theorem pis_eq (hv : ∀ k, (v (six k)).toNat < 6) :
    pisOf (extractAt ![15] (k0_pay1 (F := F) (tab v)) inpos_S16_p15) (extractAt ![15] (k0_pay2 (F := F) (tab v)) inpos_S16_p15)
      (extractAt ![15] (k0_pay3 (F := F) (tab v)) inpos_S16_p15) (extractAt ![15] (k0_pay5 (F := F) (tab v) k0_pay4) inpos_S16_p15)
      (extractAt ![15] (k0_pay6 (F := F) (tab v) (iota .scVector S16 32 [0] iota_S16_d0_w32_scVector)) inpos_S16_p15)
      (extractAt ![15] (k0_pay7 (F := F) (tab v) (iota .scVector S16 32 [0] iota_S16_d0_w32_scVector)) inpos_S16_p15) = cols v := by
  rw [ext0 v hv, ext1 v hv, ext2 v hv, ext3 v hv, ext4 v hv, ext5 v hv]; rfl

/-- The second part and the rest: the last three column numbers, then the schedule. -/
theorem wp_part2 {Q : PUnit → sProp 𝕄} (hv : ∀ k, (v (six k)).toNat < 6) (v2 : BitVec 32) (h1 h2 h3) :
    iprop(bufAny d L false ∗ bufAny d L true ∗ xAll d x q ∗ (gZero d L false ∗ gZero d L true ∗ wZero d L false ∗ wZero d L true)
        ∗ slabsLeft d L f 0 ∗ owing d L O W ∗ Transfers.MayWaits (thr d L) (default : HIx 1) O)
      ⊢ iprop((iprop(bufAny d L false ∗ bufAny d L true ∗ xAll d x q ∗ (gZero d L false ∗ gZero d L true ∗ wZero d L false ∗ wZero d L true)
            ∗ slabsDone d L (cols v) x 48 ∗ owing d L O W) -∗ Q ⟨⟩) -∗ twp d L (do
          let ⟨v44, k0_hw4, v54, k0_hw5, v64, k0_hw6⟩ ← k0_part2 (F := F) L xV (Memref.isWhole_whole _) tV (Memref.isWhole_whole _) oV (Memref.isWhole_whole _) sV (Memref.isWhole_whole _)
            aV (Memref.isWhole_whole _) bV (Memref.isWhole_whole _) cc0_scratch3 cc0_scratch4 cc0_scratch5 cc0_scratch6 cc0_scoped0 v2 (tab v)
            (iota .scVector S16 32 [0] iota_S16_d0_w32_scVector) (extractAt ![15] (k0_pay1 (F := F) (tab v)) inpos_S16_p15) h1 k0_pay4
          rest L (extractAt ![15] (k0_pay1 (F := F) (tab v)) inpos_S16_p15) (extractAt ![15] (k0_pay2 (F := F) (tab v)) inpos_S16_p15)
            (extractAt ![15] (k0_pay3 (F := F) (tab v)) inpos_S16_p15) v44 v54 v64 h1 h2 h3 k0_hw4 k0_hw5 k0_hw6 v2) Q) := by
  rw [k0_part2_eq_skeleton]; unfold k0_part2_skel
  simp only [bind_assoc, pure_bind]
  have hc := cols_lt v hv
  have hg : ∀ t a, gOff L (cols v) t a + S64x1x512.size a ≤ S16384x6x512.size a := gOff_inb L (cols v) hc
  have hP := pis_eq (F := F) v hv
  have hp : ∀ k, (pisOf (extractAt ![15] (k0_pay1 (F := F) (tab v)) inpos_S16_p15) (extractAt ![15] (k0_pay2 (F := F) (tab v)) inpos_S16_p15)
      (extractAt ![15] (k0_pay3 (F := F) (tab v)) inpos_S16_p15) (extractAt ![15] (k0_pay5 (F := F) (tab v) k0_pay4) inpos_S16_p15)
      (extractAt ![15] (k0_pay6 (F := F) (tab v) (iota .scVector S16 32 [0] iota_S16_d0_w32_scVector)) inpos_S16_p15)
      (extractAt ![15] (k0_pay7 (F := F) (tab v) (iota .scVector S16 32 [0] iota_S16_d0_w32_scVector)) inpos_S16_p15) k).toNat < 6 := by rw [hP]; exact hc
  rw [← hP]
  have hg := gOff_inb L _ hp
  iintro ⟨Hb0, Hb1, Hx, ⟨Hg0, Hg1, Hw0, Hw1⟩, Hl, HO, #Hmw⟩ Hk
  iapply (wp_assume 𝒱₀ (thr d L) none Set.univ (chk4 L _ (by rw [ext3 v hv]; exact hv 3)))
  iapply (wp_assume 𝒱₀ (thr d L) none Set.univ (chk5 L _ (by rw [ext4 v hv]; exact hv 4)))
  iapply (wp_assume 𝒱₀ (thr d L) none Set.univ (chk6 L _ (by rw [ext5 v hv]; exact hv 5)))
  iapply (wp_G d L _ hg x q _ false 0) $$ [Hb0 Hg0 Hx]
  · isplitl [Hb0]; · iexact Hb0
    isplitl [Hg0]; · iexact Hg0
    iexact Hx
  iintro ⟨Hf, Hxo⟩
  iapply (wp_wG d L _ hg x q _ false 0 O W) $$ [Hf Hxo HO]
  · isplitl [Hf]; · iexact Hf
    isplitl [Hxo]; · iexact Hxo
    isplitl [HO]; · iexact HO
    iexact Hmw
  iintro ⟨Hb0, Hx, Hg0, HO⟩
  dsimp only
  rw [rest_eq (hg := hg), ← bind_pure (runs L _ hg _)]
  iapply (wp_rest d L _ hg x q f O W hp _) $$ [Hb0 Hb1 Hx Hg0 Hg1 Hw0 Hw1 Hl HO]
  · isplitl
    · isplitl [Hb0]; · iexact Hb0
      isplitl [Hb1]; · iexact Hb1
      isplitl [Hx]; · iexact Hx
      isplitl [Hg0 Hg1 Hw0 Hw1]
      · isplitl [Hg0]; · iexact Hg0
        isplitl [Hg1]; · iexact Hg1
        isplitl [Hw0] <;> iassumption
      isplitl [Hl]; · iexact Hl
      iexact HO
    · iexact Hmw
  iintro H
  simp only [twp, wp_pure]
  imodintro
  iapply Hk
  iexact H

/-- The tile's rows of the output, slab by slab. -/
theorem rows_slabs (f : Buf (Elt F) (oLoc d)) :
    (oLoc d ↦[tileSet (L 0).val (L 1).val]{fullShare} f : sProp 𝕄) = bigSep (Finset.range 48) fun t => slabAt d L t f := by
  rw [← slab_cover L]
  exact pointsTo_biUnion (Finset.range 48) (ℓ := oLoc d) (slab L) (slab_disjoint L)

/-- A tile's whole body. -/
theorem tile_body (hv : ∀ k, (v (six k)).toNat < 6) (hO : ∀ g, O g none = 0) :
    iprop(levAts (K (F := F)).L (K (F := F)).lev ∗ emp
        ∗ ((xLoc d ↦{q} x) ∗ (tLoc d ↦{qt} tab v) ∗ oLoc d ↦[tileSet (L 0).val (L 1).val]{fullShare} f)
        ∗ (scopedBufs (thr d L) : sProp 𝕄) ∗ (scopedSems0 (thr d L) : sProp 𝕄) ∗ owes (thr d L) O W)
      ⊢ wp frame (wpE (defs₀ (F := F)) 𝒱₀ (thr d L) none) Set.univ
          (cc0__shuffle_slabs (F := F) L xV (Memref.isWhole_whole _) tV (Memref.isWhole_whole _) oV (Memref.isWhole_whole _) sV (Memref.isWhole_whole _)
            aV (Memref.isWhole_whole _) bV (Memref.isWhole_whole _) cc0_scratch3 cc0_scratch4 cc0_scratch5 cc0_scratch6 cc0_scoped0)
          fun _ => iprop(((xLoc d ↦{q} x) ∗ (tLoc d ↦{qt} tab v) ∗ oLoc d ↦[tileSet (L 0).val (L 1).val]{fullShare} pick x (cols v))
            ∗ (scopedBufs (thr d L) : sProp 𝕄) ∗ (scopedSems0 (thr d L) : sProp 𝕄) ∗ ∃ W', ⌜∀ p ∈ W', p ∈ W ∨ p.2 = none⌝ ∗ owes (thr d L) O W') := by
  rw [body_eq, (K (F := F)).scopedBufs_V facts d (cV L) (jV L), SparseCore.Cfg.scopedSems0_V (Val := Elt F) d (cV L) (jV L), ownSems0_tile, ownBufs_tile,
    rows_slabs, rows_slabs]
  iintro ⟨#Hlv, -, ⟨Hx, Ht, Ho⟩, ⟨Hs, ⟨%fa, Ha⟩, ⟨%fb, Hb⟩, Hbufs⟩, ⟨Hg0, Hg1, Hw0, Hw1, Hz, Hsems⟩, HO⟩
  ihave Hmw := (show levAts (K (F := F)).L (K (F := F)).lev ⊢ Transfers.MayWaits (thr d L) (default : HIx 1) O from
    (K (F := F)).mayWaits_none (thr := thr d L) hO) $$ Hlv
  ihave Ha' := (Entails.of_eq (show ((thr d L).loc cc0_scratch1 ↦{fullShare} fa : sProp 𝕄) = bufAt d L false fa from (pts_buf d L false fa).symm)) $$ Ha
  ihave Hb' := (Entails.of_eq (show ((thr d L).loc cc0_scratch2 ↦{fullShare} fb : sProp 𝕄) = bufAt d L true fb from (pts_buf d L true fb).symm)) $$ Hb
  icases Hmw with #Hmw
  iapply (wp_part1 d L v qt O W hv (iprop(((xLoc d ↦{q} x) ∗ slabsLeft d L f 0 ∗ bufAt d L false fa ∗ bufAt d L true fb
      ∗ gZero d L false ∗ gZero d L true ∗ wZero d L false ∗ wZero d L true)
    ∗ (bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f))
    ∗ (bigSep ((((((ownCells (thr d L)).erase (gA d L)).erase (gB d L)).erase (wA d L)).erase (wB d L)).erase (cT d L)) fun g => semVal g 0)
    ∗ Transfers.MayWaits (thr d L) (default : HIx 1) O)) _ ?_)
  · intro v2 h1 h2 h3
    iintro ⟨Ht, Hs, Hz, HO, ⟨Hx, Ho, Ha, Hb, Hg0, Hg1, Hw0, Hw1⟩, Hbufs, Hsems, #Hmw⟩
    iapply (wp_part2 d L v O W x q f hv v2 h1 h2 h3) $$ [Ha Hb Hx Hg0 Hg1 Hw0 Hw1 Ho HO]
    · isplitl [Ha]; · iexists _; iexact Ha
      isplitl [Hb]; · iexists _; iexact Hb
      isplitl [Hx]; · iexact Hx
      isplitl [Hg0 Hg1 Hw0 Hw1]
      · isplitl [Hg0]; · iexact Hg0
        isplitl [Hg1]; · iexact Hg1
        isplitl [Hw0] <;> iassumption
      isplitl [Ho]; · iexact Ho
      isplitl [HO]; · iexact HO
      iexact Hmw
    iintro ⟨⟨%fa, Ha⟩, ⟨%fb, Hb⟩, Hx, ⟨Hg0, Hg1, Hw0, Hw1⟩, Ho, HO⟩
    ihave Ha' := (Entails.of_eq (show (bufAt d L false fa : sProp 𝕄) = (thr d L).loc cc0_scratch1 ↦{fullShare} fa from pts_buf d L false fa)) $$ Ha
    ihave Hb' := (Entails.of_eq (show (bufAt d L true fb : sProp 𝕄) = (thr d L).loc cc0_scratch2 ↦{fullShare} fb from pts_buf d L true fb)) $$ Hb
    isplitl [Hx Ht Ho]
    · isplitl [Hx]; · iexact Hx
      isplitl [Ht]; · iexact Ht
      iexact Ho
    isplitl [Hs Ha' Hb' Hbufs]
    · isplitl [Hs]; · iexact Hs
      isplitl [Ha']; · iexists _; iexact Ha'
      isplitl [Hb']; · iexists _; iexact Hb'
      iexact Hbufs
    isplitl [Hg0 Hg1 Hw0 Hw1 Hz Hsems]
    · isplitl [Hg0]; · iexact Hg0
      isplitl [Hg1]; · iexact Hg1
      isplitl [Hw0]; · iexact Hw0
      isplitl [Hw1]; · iexact Hw1
      isplitl [Hz]; · iexact Hz
      iexact Hsems
    iexact HO
  isplitl [Ht]; · iexact Ht
  isplitl [Hs]; · iexact Hs
  isplitl [Hz]; · iexact Hz
  isplitl [HO]
  · iexists W; isplitr
    · ipureintro; exact fun e he => .inl he
    · iexact HO
  isplitl
  · isplitl [Hx Ho Ha' Hb' Hg0 Hg1 Hw0 Hw1]
    · isplitl [Hx]; · iexact Hx
      isplitl [Ho]; · unfold slabsLeft; rw [← Finset.range_eq_Ico]; iexact Ho
      isplitl [Ha']; · iexact Ha'
      isplitl [Hb']; · iexact Hb'
      isplitl [Hg0]; · iexact Hg0
      isplitl [Hg1]; · iexact Hg1
      isplitl [Hw0] <;> iassumption
    isplitl [Hbufs]; · iexact Hbufs
    isplitl [Hsems]; · iexact Hsems
    iexact Hmw
  · iexact Hmw

end

end

end Cert.Proof.Shuffle

end
-- ==== Proof.Launch.lean ====
/-
  THE LAUNCH: @main lays the six indices over the first six of sixteen words, hands each SparseCore its share of `x` and of
  those words and its rows of the output, and each SparseCore deals them on to its sixteen tiles; all come back with the
  rows at the kernel's value. `run_main` is the program's run: the output is `pick`, both arguments and every semaphore
  counter are as at the start.
-/
module

public import proofs.«01_k».proof.Proof.Body

@[expose] public section

noncomputable section

namespace Cert.Proof.Shuffle

open Cert.KernelIdeal Cert.KernelIdeal.Gen Cert.Proof.Schedule

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- What the proof asks of the launch memory: every index names one of the six columns. -/
def PreOK : Prop := ∀ (d : Dev nD) (k : Fin 6), BitVec.toNat (w := 32) (m (iLoc d) (six k)) < 6

/-- The sixteen words @main builds of device `d`'s indices. -/
abbrev tabOf (d : Dev nD) : Buf (Elt F) (tLoc d) := tab (m (iLoc d))
/-- The output the kernel leaves on device `d`. -/
abbrev outOf (d : Dev nD) : Buf (Elt F) (oLoc d) := pick (m (xLoc d)) (cols (m (iLoc d)))

/-! ## What the handshakes carry -/

/-- SparseCore `c`'s share of an array that all read, and its tile `s`'s. -/
abbrev coreQ (c : Fin 2) : PosShare TreeShare := Transfers.dealOf fullShare Finset.univ c
abbrev tileQ (c : Fin 2) (s : Fin 16) : PosShare TreeShare := Transfers.dealOf (coreQ c) Finset.univ s

/-- What SparseCore `c` holds with its rows of the output at `f`. -/
abbrev corePts (d : Dev nD) (c : Fin 2) (f : Buf (Elt F) (oLoc d)) : sProp 𝕄 :=
  iprop((xLoc d ↦{coreQ c} m (xLoc d)) ∗ (tLoc d ↦{coreQ c} tabOf m d) ∗ oLoc d ↦[coreSet c.val]{fullShare} f)
/-- What its tile `s` holds. -/
abbrev tilePts (d : Dev nD) (c : Fin 2) (s : Fin 16) (f : Buf (Elt F) (oLoc d)) : sProp 𝕄 :=
  iprop((xLoc d ↦{tileQ c s} m (xLoc d)) ∗ (tLoc d ↦{tileQ c s} tabOf m d) ∗ oLoc d ↦[tileSet c.val s.val]{fullShare} f)

/-- The call gives each SparseCore its part and each of its tiles theirs; they come back with the output's value. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (outOf m d)
  go := fun q d c i => match q with | 0 => tilePts m d (Fin.cast nCore_zero c) (Fin.cast nSub_zero i) (m (oLoc d))
  td := fun q d c i => match q with | 0 => tilePts m d (Fin.cast nCore_zero c) (Fin.cast nSub_zero i) (outOf m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (outOf m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (outOf m d)))

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__shuffle_slabs (coordsV c s)
          xV (Memref.isWhole_whole _) tV (Memref.isWhole_whole _) oV (Memref.isWhole_whole _)
          sV (Memref.isWhole_whole _) aV (Memref.isWhole_whole _) bV (Memref.isWhole_whole _)
          cc0_scratch3 cc0_scratch4 cc0_scratch5 cc0_scratch6 cc0_scoped0) ⟨⟩ c s := rfl

/-- A tile that recorded waits at no handshake only recorded none that the launch forbids. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile does its part of the call. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_body d (coordsV ⟨_, hci.1⟩ ⟨_, hci.2⟩) (m (iLoc d)) (tileQ (Fin.cast nCore_zero c) (Fin.cast nSub_zero i)) O W (m (xLoc d))
    (tileQ (Fin.cast nCore_zero c) (Fin.cast nSub_zero i)) (m (oLoc d)) (hpre d) hO).trans (wp_mono frame _ _ fun _ => obl_post)

/-! ## The parts split and join -/

/-- A SparseCore's part is its tiles' parts at once. -/
theorem core_tiles (d : Dev nD) (c : Fin 2) (f : Buf (Elt F) (oLoc d)) :
    corePts m d c f = bigSep Finset.univ fun s : Fin 16 => tilePts m d c s f := by
  rw [bigSep_sep', bigSep_sep', ← Transfers.pointsTo_deal Finset.univ Finset.univ_nonempty (coreQ c),
    ← Transfers.pointsTo_deal Finset.univ Finset.univ_nonempty (coreQ c),
    ← pointsTo_biUnion Finset.univ (ℓ := oLoc d) (fun s : Fin 16 => tileSet c.val s.val) (tile_disjoint c.val), tile_cover c.val c.isLt]

/-- The two SparseCores' parts at once are the three arrays whole. -/
theorem main_cores (d : Dev nD) (f : Buf (Elt F) (oLoc d)) :
    (iprop((xLoc d ↦{fullShare} m (xLoc d)) ∗ (tLoc d ↦{fullShare} tabOf m d) ∗ oLoc d ↦{fullShare} f) : sProp 𝕄)
      = bigSep Finset.univ fun c : Fin 2 => corePts m d c f := by
  rw [bigSep_sep', bigSep_sep', ← Transfers.pointsTo_deal Finset.univ Finset.univ_nonempty fullShare,
    ← Transfers.pointsTo_deal Finset.univ Finset.univ_nonempty fullShare,
    ← pointsTo_biUnion Finset.univ (ℓ := oLoc d) (fun c : Fin 2 => coreSet c.val) core_disjoint, core_cover]

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore deals its part to its tiles and joins what they bring back. -/
theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (outOf m d))
          -∗ corePts m d (Fin.cast nCore_zero c) (outOf m d)))
  rw [bigSep_tiles (F := F) (fun i => tilePts m d (Fin.cast nCore_zero c) i (m (oLoc d))),
    bigSep_tiles (F := F) (fun i => tilePts m d (Fin.cast nCore_zero c) i (outOf m d)), ← core_tiles, ← core_tiles]
  iintro H; imodintro
  isplitl [H]; · iexact H
  iintro H; iexact H

theorem st0_eq (d : Dev nD) : (bigSep Finset.univ fun c : Fin ((K (F := F)).nCore 0) => (P m).st 0 d c)
    = iprop((xLoc d ↦{fullShare} m (xLoc d)) ∗ (tLoc d ↦{fullShare} tabOf m d) ∗ oLoc d ↦{fullShare} m (oLoc d)) :=
  (bigSep_cores (F := F) fun c => corePts m d c (m (oLoc d))).trans (main_cores m d _).symm
theorem dn0_eq (d : Dev nD) : (bigSep Finset.univ fun c : Fin ((K (F := F)).nCore 0) => (P m).dn 0 d c)
    = iprop((xLoc d ↦{fullShare} m (xLoc d)) ∗ (tLoc d ↦{fullShare} tabOf m d) ∗ oLoc d ↦{fullShare} outOf m d) :=
  (bigSep_cores (F := F) fun c => corePts m d c (outOf m d)).trans (main_cores m d _).symm

/-! ## The launch element of the certificate's ghost state -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_nothing]
  iempintro

/-! ## @main on the TensorCore -/

abbrev x' : DevRef τ sig := Proc.devRef .tc (main_arg0 : Ref sig .tc)
abbrev i' : DevRef τ sig := Proc.devRef .tc (main_arg1 : Ref sig .tc)
abbrev z' : DevRef τ sig := Proc.devRef .tc (main_c : Ref sig .tc)
abbrev y' : DevRef τ sig := Proc.devRef .tc (main_v0 : Ref sig .tc)
abbrev w' : DevRef τ sig := Proc.devRef .tc (main_c_0 : Ref sig .tc)
abbrev s' : DevRef τ sig := Proc.devRef .tc (main_v1 : Ref sig .tc)
abbrev t' : DevRef τ sig := Proc.devRef .tc (main_v2 : Ref sig .tc)
abbrev o' : DevRef τ sig := Proc.devRef .tc (main_v3 : Ref sig .tc)

abbrev op1 : HloOp τ sig (Elt F) := StableHlo.nullary main_c (constantI S_ 32 0#32)
abbrev op2 : HloOp τ sig (Elt F) := StableHlo.unary main_c main_v0 (broadcastInDim S16 ![] bcast_S_S16 : (⟨S_, .i32⟩ : BufTy).Contents (Elt F) → (⟨S16, .i32⟩ : BufTy).Contents (Elt F))
abbrev op3 : HloOp τ sig (Elt F) := StableHlo.nullary main_c_0 (constantI S_ 32 0#32)
abbrev op4 : HloOp τ sig (Elt F) := StableHlo.unary main_c_0 main_v1 (broadcastInDim S1 ![] bcast_S_S1 : (⟨S_, .i32⟩ : BufTy).Contents (Elt F) → (⟨S1, .i32⟩ : BufTy).Contents (Elt F))
abbrev op5 : HloOp τ sig (Elt F) := StableHlo.ternary main_v0 main_v1 main_arg1 main_v2 ((fun x i u => Host.scatter scatter_S16_S1_S6_0_n_0_0 (fun _ b => b) x i u) : (⟨S16, .i32⟩ : BufTy).Contents (Elt F) → (⟨S1, .i32⟩ : BufTy).Contents (Elt F) → (⟨S6, .i32⟩ : BufTy).Contents (Elt F) → (⟨S16, .i32⟩ : BufTy).Contents (Elt F))

/-- The TensorCore's arrays. -/
abbrev S8 : Finset (DevRef τ sig) := {x', i', t', o', z', y', w', s'}

/-- The arrays @main does not hand to the call, bar the indices. -/
abbrev scrap (d : Dev nD) (V : Valuation τ sig (Elt F)) : sProp 𝕄 :=
  iprop(((SparseCore.T d).loc main_c ↦{fullShare} V z') ∗ ((SparseCore.T d).loc main_v0 ↦{fullShare} V y')
    ∗ ((SparseCore.T d).loc main_c_0 ↦{fullShare} V w') ∗ (SparseCore.T d).loc main_v1 ↦{fullShare} V s')

theorem held_S8 (d : Dev nD) (V : Valuation τ sig (Elt F)) :
    (held (SparseCore.T d) S8 V : sProp 𝕄)
      = iprop((xLoc d ↦{fullShare} V x') ∗ (iLoc d ↦{fullShare} V i') ∗ (tLoc d ↦{fullShare} V t') ∗ (oLoc d ↦{fullShare} V o') ∗ scrap d V) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation, and the valuation before the call. -/
def V0 (d : Dev nD) : Valuation τ sig (Elt F) := fun b => m (d, b)
def V5 (d : Dev nD) : Valuation τ sig (Elt F) :=
  (op5 (F := F)).result ((op4 (F := F)).result ((op3 (F := F)).result ((op2 (F := F)).result ((op1 (F := F)).result (V0 m d)))))

theorem unscoped_held (d : Dev nD) : (unscopedBufs d (fun b => m ((SparseCore.T d).loc b)) : sProp 𝕄) = held (SparseCore.T d) S8 (V0 m d) := by
  unfold unscopedBufs
  rw [show (Finset.univ.filter fun b : Ref sig .tc => ¬ b.isScoped) = {main_arg0, main_arg1, main_v2, main_v3, main_c, main_v0, main_c_0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton, held_S8]
  rfl

/-- The host operations leave alone an array that none of them writes. -/
theorem V5_keep (d : Dev nD) {b : DevRef τ sig} (h1 : b ∉ ({z'} : Finset (DevRef τ sig))) (h2 : b ∉ ({y'} : Finset (DevRef τ sig)))
    (h3 : b ∉ ({w'} : Finset (DevRef τ sig))) (h4 : b ∉ ({s'} : Finset (DevRef τ sig))) (h5 : b ∉ ({t'} : Finset (DevRef τ sig))) :
    V5 m d b = m (d, b) := by
  unfold V5
  rw [(op5 (F := F)).result_of_not_mem _ h5, (op4 (F := F)).result_of_not_mem _ h4, (op3 (F := F)).result_of_not_mem _ h3,
    (op2 (F := F)).result_of_not_mem _ h2, (op1 (F := F)).result_of_not_mem _ h1]
  rfl
theorem V5_x (d : Dev nD) : V5 m d x' = m (xLoc d) := V5_keep m d (by decide) (by decide) (by decide) (by decide) (by decide)
theorem V5_i (d : Dev nD) : V5 m d i' = m (iLoc d) := V5_keep m d (by decide) (by decide) (by decide) (by decide) (by decide)
theorem V5_o (d : Dev nD) : V5 m d o' = m (oLoc d) := V5_keep m d (by decide) (by decide) (by decide) (by decide) (by decide)

/-- The host operations leave the sixteen words in the array that the call reads. -/
theorem V5_t (d : Dev nD) : V5 m d t' = tabOf m d := by
  unfold V5
  rw [StableHlo.ternary_result, StableHlo.unary_result, StableHlo.nullary_result,
    StableHlo.unary_result_ne (r := main_v0) (h := by decide), StableHlo.nullary_result_ne (r := main_v0) (h := by decide),
    StableHlo.unary_result, StableHlo.nullary_result,
    StableHlo.unary_result_ne (r := main_arg1) (h := by decide), StableHlo.nullary_result_ne (r := main_arg1) (h := by decide),
    StableHlo.unary_result_ne (r := main_arg1) (h := by decide), StableHlo.nullary_result_ne (r := main_arg1) (h := by decide)]
  rfl

theorem hop1 : (op1 (F := F)).bufs ⊆ S8 := show ({z'} : Finset (DevRef τ sig)) ⊆ S8 by decide
theorem hop2 : (op2 (F := F)).bufs ⊆ S8 := show ({z', y'} : Finset (DevRef τ sig)) ⊆ S8 by decide
theorem hop3 : (op3 (F := F)).bufs ⊆ S8 := show ({w'} : Finset (DevRef τ sig)) ⊆ S8 by decide
theorem hop4 : (op4 (F := F)).bufs ⊆ S8 := show ({w', s'} : Finset (DevRef τ sig)) ⊆ S8 by decide
theorem hop5 : (op5 (F := F)).bufs ⊆ S8 := show ({y', s', i', t'} : Finset (DevRef τ sig)) ⊆ S8 by decide

/-- The arrays as the call finds them. -/
theorem held_V5 (d : Dev nD) :
    (held (SparseCore.T d) S8 (V5 m d) : sProp 𝕄)
      = iprop((xLoc d ↦{fullShare} m (xLoc d)) ∗ (iLoc d ↦{fullShare} m (iLoc d)) ∗ (tLoc d ↦{fullShare} tabOf m d)
          ∗ (oLoc d ↦{fullShare} m (oLoc d)) ∗ scrap d (V5 m d)) := by
  rw [held_S8, V5_x, V5_i, V5_t, V5_o]

/-- What @main leaves the claims: both arguments as they were, the output at its value. -/
abbrev FIN (d : Dev nD) : sProp 𝕄 :=
  iprop((xLoc d ↦{fullShare} m (xLoc d)) ∗ (iLoc d ↦{fullShare} m (iLoc d)) ∗ oLoc d ↦{fullShare} outOf m d)

/-- @main on device `d`'s TensorCore: the five host operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S8) hop1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S8) hop2 (V := (op1 (F := F)).result (V0 m d))) $$ [Hb Hheld]
  · isplitl [Hb] <;> iassumption
  iintro ⟨Hb, Hheld⟩
  rw [wp_ret]; imodintro
  iapply (wp_hlo_within 𝒱 (SparseCore.T d) none Set.univ (op := op3) (S := S8) hop3 (V := (op2 (F := F)).result ((op1 (F := F)).result (V0 m d)))) $$ [Hb Hheld]
  · isplitl [Hb] <;> iassumption
  iintro ⟨Hb, Hheld⟩
  rw [wp_ret]; imodintro
  iapply (wp_hlo_within 𝒱 (SparseCore.T d) none Set.univ (op := op4) (S := S8) hop4
    (V := (op3 (F := F)).result ((op2 (F := F)).result ((op1 (F := F)).result (V0 m d))))) $$ [Hb Hheld]
  · isplitl [Hb] <;> iassumption
  iintro ⟨Hb, Hheld⟩
  rw [wp_ret]; imodintro
  iapply (wp_hlo_within 𝒱 (SparseCore.T d) none Set.univ (op := op5) (S := S8) hop5
    (V := (op4 (F := F)).result ((op3 (F := F)).result ((op2 (F := F)).result ((op1 (F := F)).result (V0 m d)))))) $$ [Hb Hheld]
  · isplitl [Hb] <;> iassumption
  iintro ⟨Hb, Hheld⟩
  rw [wp_ret]; imodintro
  ihave Hh := (Entails.of_eq (show held (SparseCore.T d) S8
    ((op5 (F := F)).result ((op4 (F := F)).result ((op3 (F := F)).result ((op2 (F := F)).result ((op1 (F := F)).result (V0 m d)))))) = _ from held_V5 (F := F) m d)) $$ Hheld
  icases Hh with ⟨Hx, Hi, Ht, Ho, -⟩
  iapply ((K (F := F)).wp_run (D (F := F)) 𝒱 (EH := EH) (P := P m) κ d 0) $$ [Hst Hx Hi Ht Ho Hb Hts]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq m d)) $$ Hdn
  icases Hdn' with ⟨Hx, -, Ho⟩
  imodintro
  isplitl [Hst]; · iexact Hst
  isplitr [Hb Hts]
  · isplitl [Hx]; · iexact Hx
    isplitl [Hi]; · iexact Hi
    iexact Ho
  isplitl [Hb] <;> iassumption

/-- What the claims read of device `d`'s final memory. -/
def fq (d : Dev nD) (st : Phys nD τ sig (Elt F)) : Prop :=
  st.mem.mem (xLoc d) = m (xLoc d) ∧ st.mem.mem (iLoc d) = m (iLoc d) ∧ st.mem.mem (oLoc d) = outOf m d

set_option maxRecDepth 16384 in
theorem hfin (d : Dev nD) (st : Phys nD τ sig (Elt F)) : iprop(FIN m d ∗ SI st) ⊢ (⌜fq m d st⌝ : sProp 𝕄) := by
  iintro ⟨⟨Hx, Hi, Ho⟩, HSI⟩
  ihave H := (persistent_entails_right (SI_pointsTo_agree (st := st) (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := st) (ℓ := iLoc d) (I := Finset.univ) (q := fullShare) (f := m (iLoc d)))) $$ [HSI Hi]
  · isplitl [HSI] <;> iassumption
  icases H with ⟨%h2, HSI, -⟩
  ihave H := (SI_pointsTo_agree (st := st) (ℓ := oLoc d) (I := Finset.univ) (q := fullShare) (f := outOf m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- On every device both arguments are as at the start and the output is at its value; every semaphore counter is zero. -/
def QC : PUnit × MemSt nD τ sig (Elt F) → Prop := fun r =>
  (∀ c : Dev nD, r.2.mem (xLoc c) = m (xLoc c) ∧ r.2.mem (iLoc c) = m (iLoc c) ∧ r.2.mem (oLoc c) = outOf m c) ∧ r.2.sem = fun _ => 0

/-- The program runs, with the output at `pick`, from any memory whose indices name columns. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Shuffle

end
-- ==== Proof.Reference.lean ====
/-
  THE REFERENCE'S VALUE: the reference wraps negative indices, gathers the columns, and writes a not-a-number wherever an
  index is out of range. When every index names one of the six columns (`inRange_of_pre`: what the precondition says),
  nothing is wrapped and nothing is out of range, so what it leaves is `pick` — the kernel's value (`ref_eq_pick`).
-/
module

public import proofs.«01_k».proof.Proof.Values
public import proofs.«01_k».proof.Proof.Gen.ReferenceIdeal
public import proofs.«01_k».proof.Proof.Gen.Pre_in_range
public import Idealize.ShloMosaic.Lib.StableHlo.Predicate

@[expose] public section

noncomputable section

namespace Cert.Proof.Shuffle

open Cert.ReferenceIdeal Cert.ReferenceIdeal.Gen Cert.Proof.Schedule
open Idealize.ShloMosaic
open Idealize.ShloMosaic.StableHlo.Predicate

variable {F : FTy → Type} [FloatOps F]

/-! ## Conjunctions of bits -/

/-- A conjunction of bits that comes out one started from one, and met only ones. -/
theorem all_of_fold {ι : Type} (f : ι → BitVec 1) (l : List ι) (b : BitVec 1)
    (h : l.foldl (fun r n => IntOp.andi r (f n)) b = 1#1) : b = 1#1 ∧ ∀ n ∈ l, f n = 1#1 := by
  induction l generalizing b with
  | nil => exact ⟨h, fun n hn => absurd hn List.not_mem_nil⟩
  | cons a l ih =>
    obtain ⟨h1, h2⟩ := ih _ h
    have hb : ∀ p q : BitVec 1, IntOp.andi p q = 1#1 → p = 1#1 ∧ q = 1#1 := by decide
    obtain ⟨hp, hq⟩ := hb _ _ h1
    exact ⟨hp, List.forall_mem_cons.mpr ⟨hq, h2⟩⟩

/-- A conjunction of ones is one. -/
theorem fold_of_all {ι : Type} (f : ι → BitVec 1) (l : List ι) (h : ∀ n, f n = 1#1) :
    l.foldl (fun r n => IntOp.andi r (f n)) 1#1 = 1#1 := by
  induction l with
  | nil => rfl
  | cons a l ih =>
    rw [List.foldl_cons, h a, show IntOp.andi (1#1 : BitVec 1) 1#1 = 1#1 from by decide]; exact ih

/-- An array of bits whose conjunction down to one bit is one holds only ones. -/
theorem all_of_reduce {s t : Shape} [Subsingleton t.Idx] {axes : List (Fin s.rank)} (x : IVec s 1) (z : IVec S_ 1) (h : s.ReducesTo axes t)
    (hu : 0 < S_.numel) (j : t.Idx) (e : Host.reduce IntOp.andi x z h hu j = 1#1) (i : s.Idx) : x i = 1#1 := by
  have e' := (all_of_fold _ _ _ e).2 (s.rowMajor i)
    (List.mem_filter.mpr ⟨List.mem_finRange _, by simpa using Subsingleton.elim _ _⟩)
  simpa using e'

/-- The conjunction of an array of ones is one everywhere. -/
theorem reduce_of_all {s t : Shape} {axes : List (Fin s.rank)} (x : IVec s 1) (z : IVec S_ 1) (h : s.ReducesTo axes t)
    (hu : 0 < S_.numel) (hz : ∀ k, z k = 1#1) (hx : ∀ i, x i = 1#1) (j : t.Idx) : Host.reduce IntOp.andi x z h hu j = 1#1 := by
  show List.foldl _ (z _) _ = _
  rw [hz]
  exact fold_of_all _ _ fun n => hx _

/-! ## The precondition -/

/-- Every index into the six is one of `six`. -/
theorem eq_six (j : S6.Idx) : j = six (j 0) := by funext a; match a with | 0 => rfl

/-- The precondition says that every index names one of the six columns. -/
theorem inRange_of_pre (x : FVec F S16384x6x512 .f32) (v : IVec S6 32) (h : Cert.Pre_in_range.fn (F := F) x v = fun _ => 1#1) (k : Fin 6) :
    (v (six k)).toNat < 6 := by
  haveI : Subsingleton Cert.Pre_in_range.S_.Idx := ⟨fun a b => funext fun i => i.elim0⟩
  have e := all_of_reduce _ _ _ _ (fun a => a.elim0) (congrFun h (fun a => a.elim0)) (six k)
  have hb : ∀ p q : BitVec 1, IntOp.andi p q = 1#1 → p = 1#1 ∧ q = 1#1 := by decide
  obtain ⟨h0, h6⟩ := hb _ _ e
  have h0' : BitVec.ofBool ((0#32).sle (v (six k))) = 1#1 := h0
  have h6' : BitVec.ofBool ((v (six k)).slt 6#32) = 1#1 := h6
  rw [ofBool_eq_one_iff, BitVec.sle_eq_decide, decide_eq_true_eq] at h0'
  rw [ofBool_eq_one_iff, BitVec.slt_eq_decide, decide_eq_true_eq] at h6'
  have q := BitVec.toInt_eq_toNat_cond (v (six k))
  have l := (v (six k)).isLt
  rw [show (0#32 : BitVec 32).toInt = 0 from by decide] at h0'
  rw [show (6#32 : BitVec 32).toInt = 6 from by decide] at h6'
  split at q <;> omega

/-! ## The reference's value -/

/-- The wrapped indices. -/
abbrev wrapped (v : IVec S6 32) : IVec S6 32 :=
  select (cmpi .slt v (broadcastInDim S6 ![] bcast_S_S6 (constantI S_ 32 0#32))) (addi v (broadcastInDim S6 ![] bcast_S_S6 (constantI S_ 32 6#32))) v

/-- The wrapped indices as a column: where each gathered slice starts. -/
abbrev starts (v : IVec S6 32) : IVec S6x1 32 := broadcastInDim S6x1 ![0] bcast_S6_S6x1_0 (wrapped v)

/-- Which starts are in range. -/
abbrev inside (v : IVec S6 32) : IVec S6x1 1 :=
  andi (cmpi .sge (starts v) (broadcastInDim S6x1 ![] bcast_S_S6x1 (constantI S_ 32 0#32)))
    (cmpi .sle (starts v) (broadcastInDim S6x1 ![0, 1] bcast_S1x1_S6x1_0_1 (broadcastInDim S1x1 ![1] bcast_S1_S1x1_1 (constantI S1 32 5#32))))

/-- What the reference computes. -/
abbrev refOut (x : FVec F S16384x6x512 .f32) (v : IVec S6 32) : FVec F S16384x6x512 .f32 :=
  select (broadcastInDim S16384x6x512 ![1] bcast_S6_S16384x6x512_1
      (Host.reduce IntOp.andi (inside v) (constantI S_ 1 1#1) reducesTo_S6x1_S6_d1 h_S_))
    (Host.gather gather_S16384x6x512_S6x1_S16384x6x512_02_1_n_n_1_1_163841512 x (starts v))
    (broadcastInDim S16384x6x512 ![] bcast_S_S16384x6x512 (constant S_ .f32 0x7FC00000#32))

theorem wrapped_eq (v : IVec S6 32) (hv : ∀ k, (v (six k)).toNat < 6) : wrapped v = v := by
  funext j
  obtain ⟨k, rfl⟩ : ∃ k, j = six k := ⟨_, eq_six j⟩
  have hk := hv k
  show (if IntOp.cmpi .slt (v (six k)) 0#32 = 1#1 then _ else v (six k)) = v (six k)
  refine if_neg fun h => ?_
  have := (slt_iff_toNat (a := v (six k)) (b := 0#32) (by omega) (by decide)).mp h
  exact absurd this (Nat.not_lt_zero _)

theorem starts_apply (v : IVec S6 32) (hv : ∀ k, (v (six k)).toNat < 6) (y : S6x1.Idx) (k : Fin 6) (hk : (y 0).val = k.val) :
    starts v y = v (six k) := by
  show broadcastInDim S6x1 ![0] bcast_S6_S6x1_0 (wrapped v) y = _
  rw [wrapped_eq v hv]
  unfold broadcastInDim
  congr 1
  funext a
  match a with | 0 => exact Fin.ext hk

theorem inside_apply (v : IVec S6 32) (hv : ∀ k, (v (six k)).toNat < 6) (y : S6x1.Idx) : inside v y = 1#1 := by
  obtain ⟨k, hk⟩ : ∃ k : Fin 6, (y 0).val = k.val := ⟨y 0, rfl⟩
  have e := starts_apply v hv y k hk
  have hl := hv k
  show IntOp.andi (IntOp.cmpi .sge (starts v y) 0#32) (IntOp.cmpi .sle (starts v y) 5#32) = 1#1
  generalize v (six k) = w at e hl
  rw [e, (sge_iff_toNat (a := w) (b := 0#32) (by omega) (by decide)).mpr (Nat.zero_le _),
    (sle_iff_toNat (a := w) (b := 5#32) (by omega) (by decide)).mpr (Nat.le_of_lt_succ hl)]
  decide

/-- The columns' list read at one of the six places. -/
theorem cols_val (v : IVec S6 32) (k : Fin 6) : cols v k.val = v (six k) :=
  match k with
  | 0 => rfl
  | 1 => rfl
  | 2 => rfl
  | 3 => rfl
  | 4 => rfl
  | 5 => rfl

/-- The gathered array read at an index: the row's column that the index names. -/
theorem gather_apply {α : Type} (x : S16384x6x512.Idx → α) (v : IVec S6 32) (hv : ∀ k, (v (six k)).toNat < 6) (j : S16384x6x512.Idx) :
    Host.gather gather_S16384x6x512_S6x1_S16384x6x512_02_1_n_n_1_1_163841512 x (starts v) j = pick x (cols v) j := by
  unfold Host.gather pick
  congr 1
  funext a
  refine Fin.ext ?_
  show GatherDims.start _ j (starts v) a + GatherDims.batchCoord _ j a + GatherDims.offCoord _ j a = _
  rw [GatherDims.batchCoord_eq_zero _ _ _ List.not_mem_nil, Nat.add_zero]
  match a with
  | 0 =>
    unfold GatherDims.start
    rw [dif_neg (by decide), Nat.zero_add]
    unfold GatherDims.offCoord
    rw [dif_pos (by decide)]
    rfl
  | 1 =>
    rw [GatherDims.offCoord_eq_zero _ _ _ (by decide), Nat.add_zero]
    refine (dif_pos (show (1 : Fin 3) ∈ [(1 : Fin 3)] from List.mem_singleton.mpr rfl)).trans ?_
    obtain ⟨k, hk⟩ : ∃ k : Fin 6, (j 1).val = k.val := ⟨j 1, rfl⟩
    show min (starts v _).toInt.toNat 5 = (cols v (j 1).val).toNat % 6
    have hl := hv k
    rw [starts_apply v hv _ k hk, hk, cols_val v k, toInt_eq_toNat_of_lt (by omega), Int.toNat_natCast, Nat.mod_eq_of_lt hl]
    exact Nat.min_eq_left (Nat.le_of_lt_succ hl)
  | 2 =>
    unfold GatherDims.start
    rw [dif_neg (by decide), Nat.zero_add]
    unfold GatherDims.offCoord
    rw [dif_pos (by decide)]
    rfl

/-- What the reference computes when every index names a column. -/
theorem ref_eq_pick (x : FVec F S16384x6x512 .f32) (v : IVec S6 32) (hv : ∀ k, (v (six k)).toNat < 6) : refOut x v = pick x (cols v) := by
  funext j
  rw [← gather_apply x v hv j]
  exact if_pos (reduce_of_all _ _ _ _ (fun _ => rfl) (inside_apply v hv) _)

end Cert.Proof.Shuffle

end
-- ==== Proof.lean ====
/-
  THE CLAIMS. The kernel's run (Proof/Launch.lean) is one theorem at any float values: the program as printed takes it at
  the bit patterns, the ideal one at the extended reals. The reference's run is its operations' composed term, which is the
  kernel's value (Proof/Reference.lean) when every index names a column.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Proof.Shuffle

/-- The kernel as printed runs, leaving its arguments and every semaphore counter as they were. -/
theorem frame_kernel : Cert.quiescent_Kernel := fun m ρ h =>
  (θ_run Cert.KernelIdeal.defs _ _).mono (fun _ r => ⟨fun c => ⟨(r.1 c).1, (r.1 c).2.1⟩, r.2⟩)
    (run_main (F := Bits) m ρ fun d k => inRange_of_pre (F := Bits) _ _ (h d) k)

/-- The ideal kernel's run, from a memory of which the precondition holds. -/
theorem run_ideal (m : (ℓ : Loc Cert.KernelIdeal.nD Cert.KernelIdeal.τ Cert.KernelIdeal.sig) → Buf (Elt Ideal) ℓ)
    (ρ : Dev Cert.KernelIdeal.nD → PrngReg) (h : Cert.Pre_KernelIdeal m) :
    θ_run (Cert.KernelIdeal.defs (F := Ideal)) (Cert.KernelIdeal.threads (F := Ideal)) ⟨m, fun _ => 0, ρ⟩ (QC m) :=
  run_main (F := Ideal) m ρ fun d k => inRange_of_pre (F := Ideal) _ _ (h d) k

theorem frame_ideal : Cert.quiescent_KernelIdeal := fun m ρ h =>
  (θ_run Cert.KernelIdeal.defs _ _).mono (fun _ r => ⟨fun c => ⟨(r.1 c).1, (r.1 c).2.1⟩, r.2⟩) (run_ideal m ρ h)

/-- The reference runs, leaving its arguments as they were; it has no semaphores. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The same with the precondition, which it does not need. -/
theorem frame_reference_pre : Cert.quiescent_ReferenceIdeal_pre_in_range := fun m ρ _ => frame_reference m ρ trivial

/-- From memories that agree on the arguments, the kernel and the reference leave the same output. -/
theorem same_output : Cert.algebraic_KernelIdeal_ReferenceIdeal := fun m ρ m' ρ' h ha =>
  ⟨fun c => outOf m c,
    (θ_run Cert.KernelIdeal.defs _ _).mono (fun _ r c => ⟨(r.1 c).2.2, (r.1 c).1, (r.1 c).2.1⟩) (run_ideal m ρ h),
    (θ_run Cert.ReferenceIdeal.defs _ _).mono
      (fun r q c => ⟨(q c).1.trans (by
        rw [(ha c).1, (ha c).2]
        exact ref_eq_pick _ _ fun k => inRange_of_pre (F := Ideal) _ _ (h c) k), (q c).2.1, (q c).2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, trivial, same_output⟩

end Cert.Proof

end
